-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![4, 64, 112, 112]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v16) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 64, 112, 112]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v35) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S4x3x224x224 : Shape := ⟨4, ![4, 3, 224, 224]⟩
abbrev S1024x3x5x5 : Shape := ⟨4, ![1024, 3, 5, 5]⟩
abbrev S1024 : Shape := ⟨1, ![1024]⟩
abbrev S1024x64 : Shape := ⟨2, ![1024, 64]⟩
abbrev S_ : Shape := ⟨0, ![]⟩
abbrev S4x3x228x228 : Shape := ⟨4, ![4, 3, 228, 228]⟩
abbrev S5x112 : Shape := ⟨2, ![5, 112]⟩
abbrev S5x112x1 : Shape := ⟨3, ![5, 112, 1]⟩
abbrev S4x3x5x112x228 : Shape := ⟨5, ![4, 3, 5, 112, 228]⟩
abbrev S4x3x5x112x5x112 : Shape := ⟨6, ![4, 3, 5, 112, 5, 112]⟩
abbrev S4x112x112x1024 : Shape := ⟨4, ![4, 112, 112, 1024]⟩
abbrev S1x1x1x1024 : Shape := ⟨4, ![1, 1, 1, 1024]⟩
abbrev S4x112x112x9 : Shape := ⟨4, ![4, 112, 112, 9]⟩
abbrev S4x112x112x1 : Shape := ⟨4, ![4, 112, 112, 1]⟩
abbrev S4x112x112 : Shape := ⟨3, ![4, 112, 112]⟩
abbrev S4x1x112x112 : Shape := ⟨4, ![4, 1, 112, 112]⟩
abbrev S4x64x112x112 : Shape := ⟨4, ![4, 64, 112, 112]⟩

class Facts : Prop where
  pads_S4x3x224x224_S4x3x228x228_000_000_220_220 : S4x3x224x224.Pads (![0, 0, 2, 2] : Fin 4 → Nat) ![0, 0, 2, 2] ![0, 0, 0, 0] S4x3x228x228
  h_S_ : 0 < S_.numel
  bcast_S_S5x112 : S_.BroadcastsInDim S5x112 (![] : Fin 0 → Fin S5x112.rank)
  bcast_S5x112_S5x112x1_0_1 : S5x112.BroadcastsInDim S5x112x1 (![0, 1] : Fin 2 → Fin S5x112x1.rank)
  bcast_S1024_S1x1x1x1024_3 : S1024.BroadcastsInDim S1x1x1x1024 (![3] : Fin 1 → Fin S1x1x1x1024.rank)
  bcast_S1x1x1x1024_S4x112x112x1024_0_1_2_3 : S1x1x1x1024.BroadcastsInDim S4x112x112x1024 (![0, 1, 2, 3] : Fin 4 → Fin S4x112x112x1024.rank)
  sliceFits_S4x112x112x1024_S4x112x112x9 : S4x112x112x1024.Slices (fun _ => 0) S4x112x112x9
  slices_S4x112x112x9_S4x112x112x1_0_0_0_7 : S4x112x112x9.Slices ![0, 0, 0, 7] S4x112x112x1
  shapeCasts_S4x112x112x1_S4x112x112 : S4x112x112x1.ShapeCasts S4x112x112
  slices_S4x112x112x9_S4x112x112x1_0_0_0_8 : S4x112x112x9.Slices ![0, 0, 0, 8] S4x112x112x1
  bcast_S4x112x112_S4x1x112x112_0_2_3 : S4x112x112.BroadcastsInDim S4x1x112x112 (![0, 2, 3] : Fin 3 → Fin S4x1x112x112.rank)
  bcast_S4x1x112x112_S4x64x112x112_0_1_2_3 : S4x1x112x112.BroadcastsInDim S4x64x112x112 (![0, 1, 2, 3] : Fin 4 → Fin S4x64x112x112.rank)
  gather_S4x3x228x228_S5x112x1_S4x3x5x112x228_014_2_n_n_2_2_431228_wf : GatherDims.WF S4x3x228x228 S5x112x1 S4x3x5x112x228 [0, 1, 4] [2] [] [2] [] 2 ![4, 3, 1, 228]
  gather_S4x3x5x112x228_S5x112x1_S4x3x5x112x5x112_0123_4_n_n_4_2_4351121_wf : GatherDims.WF S4x3x5x112x228 S5x112x1 S4x3x5x112x5x112 [0, 1, 2, 3] [4] [] [4] [] 2 ![4, 3, 5, 112, 1]
  dot_S4x3x5x112x5x112_S1024x3x5x5_S4x112x112x1024_124_123_035_0_n_n_wf : DotDims.WF S4x3x5x112x5x112 S1024x3x5x5 S4x112x112x1024 [1, 2, 4] [1, 2, 3] [0, 3, 5] [0] [] []

variable [Facts]

def gather_S4x3x228x228_S5x112x1_S4x3x5x112x228_014_2_n_n_2_2_431228 : GatherDims S4x3x228x228 S5x112x1 S4x3x5x112x228 where
  offsetDims := [0, 1, 4]
  collapsedSliceDims := [2]
  operandBatchingDims := []
  startIndicesBatchingDims := []
  startIndexMap := [2]
  indexVectorDim := 2
  sliceSizes := ![4, 3, 1, 228]
  wf := gather_S4x3x228x228_S5x112x1_S4x3x5x112x228_014_2_n_n_2_2_431228_wf
def gather_S4x3x5x112x228_S5x112x1_S4x3x5x112x5x112_0123_4_n_n_4_2_4351121 : GatherDims S4x3x5x112x228 S5x112x1 S4x3x5x112x5x112 where
  offsetDims := [0, 1, 2, 3]
  collapsedSliceDims := [4]
  operandBatchingDims := []
  startIndicesBatchingDims := []
  startIndexMap := [4]
  indexVectorDim := 2
  sliceSizes := ![4, 3, 5, 112, 1]
  wf := gather_S4x3x5x112x228_S5x112x1_S4x3x5x112x5x112_0123_4_n_n_4_2_4351121_wf
def dot_S4x3x5x112x5x112_S1024x3x5x5_S4x112x112x1024_124_123_035_0_n_n : DotDims S4x3x5x112x5x112 S1024x3x5x5 S4x112x112x1024 where
  lhsContracting := [1, 2, 4]
  rhsContracting := [1, 2, 3]
  lhsNonContracting := [0, 3, 5]
  rhsNonContracting := [0]
  lhsBatch := []
  rhsBatch := []
  wf := dot_S4x3x5x112x5x112_S1024x3x5x5_S4x112x112x1024_124_123_035_0_n_n_wf
def fn_part1 {F : FTy → Type} [FloatOps F] (main_arg1 : FVec F S1024x3x5x5 .f32) (main_arg2 : FVec F S1024 .f32) (main_v12 : FVec F S4x3x5x112x228 .f32) (main_v17 : IVec S5x112 32) : IVec S4x64x112x112 1 :=
  let main_v18 : IVec S5x112x1 32 := broadcastInDim S5x112x1 ![0, 1] bcast_S5x112_S5x112x1_0_1 main_v17
  let main_v19 : FVec F S4x3x5x112x5x112 .f32 := (fun x i => Host.gather gather_S4x3x5x112x228_S5x112x1_S4x3x5x112x5x112_0123_4_n_n_4_2_4351121 x i) main_v12 main_v18
  let main_v20 : FVec F S4x112x112x1024 .f32 := (fun l r => Host.dotGeneral dot_S4x3x5x112x5x112_S1024x3x5x5_S4x112x112x1024_124_123_035_0_n_n none l r) main_v19 main_arg1
  let main_v21 : FVec F S1x1x1x1024 .f32 := broadcastInDim S1x1x1x1024 ![3] bcast_S1024_S1x1x1x1024_3 main_arg2
  let main_v22 : FVec F S4x112x112x1024 .f32 := broadcastInDim S4x112x112x1024 ![0, 1, 2, 3] bcast_S1x1x1x1024_S4x112x112x1024_0_1_2_3 main_v21
  let main_v23 : FVec F S4x112x112x1024 .f32 := addf main_v20 main_v22
  let main_v24 : FVec F S4x112x112x1024 .f32 := Host.negf main_v23
  let main_values : FVec F S4x112x112x9 .f32 := (fun x => (Host.topK S4x112x112x9 3 (FloatOps.cmpfTotal .gt) x sliceFits_S4x112x112x1024_S4x112x112x9).1) main_v24
  let main_indices : IVec S4x112x112x9 32 := (fun x => (Host.topK S4x112x112x9 3 (FloatOps.cmpfTotal .gt) x sliceFits_S4x112x112x1024_S4x112x112x9).2) main_v24
  let main_v25 : FVec F S4x112x112x1 .f32 := (extractStridedSlice S4x112x112x1 ![0, 0, 0, 7] · slices_S4x112x112x9_S4x112x112x1_0_0_0_7) main_values
  let main_v26 : FVec F S4x112x112 .f32 := shapeCast S4x112x112 main_v25 shapeCasts_S4x112x112x1_S4x112x112
  let main_v27 : FVec F S4x112x112x1 .f32 := (extractStridedSlice S4x112x112x1 ![0, 0, 0, 8] · slices_S4x112x112x9_S4x112x112x1_0_0_0_8) main_values
  let main_v28 : FVec F S4x112x112 .f32 := shapeCast S4x112x112 main_v27 shapeCasts_S4x112x112x1_S4x112x112
  let main_v29 : IVec S4x112x112 1 := cmpf .une main_v26 main_v28
  let main_v30 : IVec S4x1x112x112 1 := broadcastInDim S4x1x112x112 ![0, 2, 3] bcast_S4x112x112_S4x1x112x112_0_2_3 main_v29
  let main_v31 : IVec S4x64x112x112 1 := broadcastInDim S4x64x112x112 ![0, 1, 2, 3] bcast_S4x1x112x112_S4x64x112x112_0_1_2_3 main_v30
  main_v31

def fn {F : FTy → Type} [FloatOps F] (main_arg0 : FVec F S4x3x224x224 .f32) (main_arg1 : FVec F S1024x3x5x5 .f32) (main_arg2 : FVec F S1024 .f32) (main_arg3 : FVec F S1024x64 .f32) : IVec S4x64x112x112 1 :=
  let main_cst : FVec F S_ .f32 := constant S_ .f32 0x00000000#32
  let main_v0 : FVec F S4x3x228x228 .f32 := (fun x v => pad S4x3x228x228 ![0, 0, 2, 2] ![0, 0, 2, 2] ![0, 0, 0, 0] x v pads_S4x3x224x224_S4x3x228x228_000_000_220_220 h_S_) main_arg0 main_cst
  let main_v1 : IVec S5x112 32 := iotaInDim S5x112 32 1
  let main_c : IVec S_ 32 := constantI S_ 32 2#32
  let main_v2 : IVec S5x112 32 := broadcastInDim S5x112 ![] bcast_S_S5x112 main_c
  let main_v3 : IVec S5x112 32 := muli main_v2 main_v1
  let main_v4 : IVec S5x112 32 := iotaInDim S5x112 32 0
  let main_v5 : IVec S5x112 32 := addi main_v3 main_v4
  let main_c_0 : IVec S_ 32 := constantI S_ 32 0#32
  let main_v6 : IVec S5x112 32 := broadcastInDim S5x112 ![] bcast_S_S5x112 main_c_0
  let main_v7 : IVec S5x112 1 := cmpi .slt main_v5 main_v6
  let main_c_1 : IVec S_ 32 := constantI S_ 32 228#32
  let main_v8 : IVec S5x112 32 := broadcastInDim S5x112 ![] bcast_S_S5x112 main_c_1
  let main_v9 : IVec S5x112 32 := addi main_v5 main_v8
  let main_v10 : IVec S5x112 32 := select main_v7 main_v9 main_v5
  let main_v11 : IVec S5x112x1 32 := broadcastInDim S5x112x1 ![0, 1] bcast_S5x112_S5x112x1_0_1 main_v10
  let main_v12 : FVec F S4x3x5x112x228 .f32 := (fun x i => Host.gather gather_S4x3x228x228_S5x112x1_S4x3x5x112x228_014_2_n_n_2_2_431228 x i) main_v0 main_v11
  let main_c_2 : IVec S_ 32 := constantI S_ 32 0#32
  let main_v13 : IVec S5x112 32 := broadcastInDim S5x112 ![] bcast_S_S5x112 main_c_2
  let main_v14 : IVec S5x112 1 := cmpi .slt main_v5 main_v13
  let main_c_3 : IVec S_ 32 := constantI S_ 32 228#32
  let main_v15 : IVec S5x112 32 := broadcastInDim S5x112 ![] bcast_S_S5x112 main_c_3
  let main_v16 : IVec S5x112 32 := addi main_v5 main_v15
  let main_v17 : IVec S5x112 32 := select main_v14 main_v16 main_v5
  fn_part1 (F := F) main_arg1 main_arg2 main_v12 main_v17
-- ==== Kernel.lean ====
abbrev S4x3x224x224 : Shape := ⟨4, ![4, 3, 224, 224]⟩
abbrev S1024x3x5x5 : Shape := ⟨4, ![1024, 3, 5, 5]⟩
abbrev S1024 : Shape := ⟨1, ![1024]⟩
abbrev S1024x64 : Shape := ⟨2, ![1024, 64]⟩
abbrev S_ : Shape := ⟨0, ![]⟩
abbrev S4x3x228x260 : Shape := ⟨4, ![4, 3, 228, 260]⟩
abbrev S4x3x228x130x2 : Shape := ⟨5, ![4, 3, 228, 130, 2]⟩
abbrev S4x3x228x130x1 : Shape := ⟨5, ![4, 3, 228, 130, 1]⟩
abbrev S4x3x228x130 : Shape := ⟨4, ![4, 3, 228, 130]⟩
abbrev S4x3x114x2x130 : Shape := ⟨5, ![4, 3, 114, 2, 130]⟩
abbrev S1024x3x25 : Shape := ⟨3, ![1024, 3, 25]⟩
abbrev S1024x25x3 : Shape := ⟨3, ![1024, 25, 3]⟩
abbrev S1024x75 : Shape := ⟨2, ![1024, 75]⟩
abbrev S1024x1 : Shape := ⟨2, ![1024, 1]⟩
abbrev S64x1024 : Shape := ⟨2, ![64, 1024]⟩
abbrev S64x57344 : Shape := ⟨2, ![64, 57344]⟩
abbrev S1x3x114x2x130 : Shape := ⟨5, ![1, 3, 114, 2, 130]⟩
abbrev S64x512 : Shape := ⟨2, ![64, 512]⟩
abbrev S1x3x1x1x128 : Shape := ⟨5, ![1, 3, 1, 1, 128]⟩
abbrev S3x1x128 : Shape := ⟨3, ![3, 1, 128]⟩
abbrev S3x128 : Shape := ⟨2, ![3, 128]⟩
abbrev S3x512 : Shape := ⟨2, ![3, 512]⟩
abbrev S75x512 : Shape := ⟨2, ![75, 512]⟩
abbrev S1024x512 : Shape := ⟨2, ![1024, 512]⟩
abbrev S128x512 : Shape := ⟨2, ![128, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S512 : Shape := ⟨1, ![512]⟩
abbrev S64x4x112x128 : Shape := ⟨4, ![64, 4, 112, 128]⟩
abbrev S64x4x112x112 : Shape := ⟨4, ![64, 4, 112, 112]⟩
abbrev S4x64x112x112 : Shape := ⟨4, ![4, 64, 112, 112]⟩

abbrev nBuf : Space → Nat
  | .hbm => 23
  | .vmem => 9
  | .smem => 0
  | _ => 0

abbrev bufTy : (tb : Table) → Fin (tcTables nBuf tb) → BufTy
  | .hbm, ⟨0, _⟩ => ⟨S4x3x224x224, .f32⟩
  | .hbm, ⟨1, _⟩ => ⟨S1024x3x5x5, .f32⟩
  | .hbm, ⟨2, _⟩ => ⟨S1024, .f32⟩
  | .hbm, ⟨3, _⟩ => ⟨S1024x64, .f32⟩
  | .hbm, ⟨4, _⟩ => ⟨S_, .i32⟩
  | .hbm, ⟨5, _⟩ => ⟨S_, .f32⟩
  | .hbm, ⟨6, _⟩ => ⟨S4x3x228x260, .f32⟩
  | .hbm, ⟨7, _⟩ => ⟨S4x3x228x130x2, .f32⟩
  | .hbm, ⟨8, _⟩ => ⟨S4x3x228x130x1, .f32⟩
  | .hbm, ⟨9, _⟩ => ⟨S4x3x228x130, .f32⟩
  | .hbm, ⟨10, _⟩ => ⟨S4x3x114x2x130, .f32⟩
  | .hbm, ⟨11, _⟩ => ⟨S4x3x228x130x1, .f32⟩
  | .hbm, ⟨12, _⟩ => ⟨S4x3x228x130, .f32⟩
  | .hbm, ⟨13, _⟩ => ⟨S4x3x114x2x130, .f32⟩
  | .hbm, ⟨14, _⟩ => ⟨S1024x3x25, .f32⟩
  | .hbm, ⟨15, _⟩ => ⟨S1024x25x3, .f32⟩
  | .hbm, ⟨16, _⟩ => ⟨S1024x75, .f32⟩
  | .hbm, ⟨17, _⟩ => ⟨S1024x1, .f32⟩
  | .hbm, ⟨18, _⟩ => ⟨S64x1024, .f32⟩
  | .hbm, ⟨19, _⟩ => ⟨S64x57344, .f32⟩
  | .hbm, ⟨20, _⟩ => ⟨S64x4x112x128, .f32⟩
  | .hbm, ⟨21, _⟩ => ⟨S64x4x112x112, .f32⟩
  | .hbm, ⟨22, _⟩ => ⟨S4x64x112x112, .f32⟩
  | .local _ .vmem, ⟨0, _⟩ => ⟨S1024x75, .f32⟩
  | .local _ .vmem, ⟨1, _⟩ => ⟨S1x3x114x2x130, .f32⟩
  | .local _ .vmem, ⟨2, _⟩ => ⟨S1x3x114x2x130, .f32⟩
  | .local _ .vmem, ⟨3, _⟩ => ⟨S1x3x114x2x130, .f32⟩
  | .local _ .vmem, ⟨4, _⟩ => ⟨S1x3x114x2x130, .f32⟩
  | .local _ .vmem, ⟨5, _⟩ => ⟨S1024x1, .f32⟩
  | .local _ .vmem, ⟨6, _⟩ => ⟨S64x1024, .f32⟩
  | .local _ .vmem, ⟨7, _⟩ => ⟨S64x512, .f32⟩
  | .local _ .vmem, ⟨8, _⟩ => ⟨S64x512, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 28], ![false, false]⟩

def k0_off1 (i : grid0.Coords) (c0_i32 : BitVec 32) (c0_i32_0 : BitVec 32) : Fin 5 → Nat :=
  let c0 : Index := 0#32
  let c0_1 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : BitVec 32 := Scalar.addi v1 c0_i32_0
  let v3 : Index := Scalar.indexCast v2
  let c0_2 : Index := 0#32
  let c0_3 : Index := 0#32
  ![0, 0, v3.toNat, 0, 0]
def k0_off2 (i : grid0.Coords) (c0_i32_51 : BitVec 32) (c0_i32_52 : BitVec 32) : Fin 5 → Nat :=
  let c0_53 : Index := 0#32
  let c0_54 : Index := 0#32
  let arg1 : BitVec 32 := BitVec.ofNat 32 (i 1).val
  let c4_i32_50 : BitVec 32 := 4#32
  let v58 : BitVec 32 := Scalar.muli arg1 c4_i32_50
  let v59 : BitVec 32 := Scalar.addi v58 c0_i32_51
  let v60 : BitVec 32 := Scalar.addi v59 c0_i32_52
  let v61 : Index := Scalar.indexCast v60
  let c0_55 : Index := 0#32
  let c1 : Index := 1#32
  ![0, 0, v61.toNat, 0, 1]
def k0_off3 (i : grid0.Coords) (c0_i32_106 : BitVec 32) (c0_i32_107 : BitVec 32) : Fin 5 → Nat :=
  let c0_108 : Index := 0#32
  let c0_109 : Index := 0#32
  let arg1 : BitVec 32 := BitVec.ofNat 32 (i 1).val
  let c4_i32_105 : BitVec 32 := 4#32
  let v116 : BitVec 32 := Scalar.muli arg1 c4_i32_105
  let v117 : BitVec 32 := Scalar.addi v116 c0_i32_106
  let v118 : BitVec 32 := Scalar.addi v117 c0_i32_107
  let v119 : Index := Scalar.indexCast v118
  let c0_110 : Index := 0#32
  let c2 : Index := 2#32
  ![0, 0, v119.toNat, 0, 2]
def k0_off4 (i : grid0.Coords) (c0_i32_133 : BitVec 32) (c0_i32_134 : BitVec 32) : Fin 5 → Nat :=
  let c0_135 : Index := 0#32
  let c0_136 : Index := 0#32
  let arg1 : BitVec 32 := BitVec.ofNat 32 (i 1).val
  let c4_i32_132 : BitVec 32 := 4#32
  let v145 : BitVec 32 := Scalar.muli arg1 c4_i32_132
  let v146 : BitVec 32 := Scalar.addi v145 c0_i32_133
  let v147 : BitVec 32 := Scalar.addi v146 c0_i32_134
  let v148 : Index := Scalar.indexCast v147
  let c1_137 : Index := 1#32
  let c0_138 : Index := 0#32
  ![0, 0, v148.toNat, 1, 0]
def k0_off5 (i : grid0.Coords) (c0_i32_189 : BitVec 32) (c0_i32_190 : BitVec 32) : Fin 5 → Nat :=
  let c0_191 : Index := 0#32
  let c0_192 : Index := 0#32
  let arg1 : BitVec 32 := BitVec.ofNat 32 (i 1).val
  let c4_i32_188 : BitVec 32 := 4#32
  let v203 : BitVec 32 := Scalar.muli arg1 c4_i32_188
  let v204 : BitVec 32 := Scalar.addi v203 c0_i32_189
  let v205 : BitVec 32 := Scalar.addi v204 c0_i32_190
  let v206 : Index := Scalar.indexCast v205
  let c1_193 : Index := 1#32
  let c1_194 : Index := 1#32
  ![0, 0, v206.toNat, 1, 1]
def k0_off6 (i : grid0.Coords) (c0_i32_245 : BitVec 32) (c0_i32_246 : BitVec 32) : Fin 5 → Nat :=
  let c0_247 : Index := 0#32
  let c0_248 : Index := 0#32
  let arg1 : BitVec 32 := BitVec.ofNat 32 (i 1).val
  let c4_i32_244 : BitVec 32 := 4#32
  let v261 : BitVec 32 := Scalar.muli arg1 c4_i32_244
  let v262 : BitVec 32 := Scalar.addi v261 c0_i32_245
  let v263 : BitVec 32 := Scalar.addi v262 c0_i32_246
  let v264 : Index := Scalar.indexCast v263
  let c1_249 : Index := 1#32
  let c2_250 : Index := 2#32
  ![0, 0, v264.toNat, 1, 2]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.muli arg0 c28_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S1024x75 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x3x114x2x130 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x114x2x130 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x3x224x224 : Shape := ⟨4, ![4, 3, 224, 224]⟩
abbrev S1024x3x5x5 : Shape := ⟨4, ![1024, 3, 5, 5]⟩
abbrev S1024 : Shape := ⟨1, ![1024]⟩
abbrev S1024x64 : Shape := ⟨2, ![1024, 64]⟩
abbrev S_ : Shape := ⟨0, ![]⟩
abbrev S4x3x228x228 : Shape := ⟨4, ![4, 3, 228, 228]⟩
abbrev S5x112 : Shape := ⟨2, ![5, 112]⟩
abbrev S5x112x1 : Shape := ⟨3, ![5, 112, 1]⟩
abbrev S4x3x5x112x228 : Shape := ⟨5, ![4, 3, 5, 112, 228]⟩
abbrev S4x3x5x112x5x112 : Shape := ⟨6, ![4, 3, 5, 112, 5, 112]⟩
abbrev S4x112x112x1024 : Shape := ⟨4, ![4, 112, 112, 1024]⟩
abbrev S1x1x1x1024 : Shape := ⟨4, ![1, 1, 1, 1024]⟩
abbrev S4x112x112x8 : Shape := ⟨4, ![4, 112, 112, 8]⟩
abbrev S4x112x112x8x1 : Shape := ⟨5, ![4, 112, 112, 8, 1]⟩
abbrev S4x112x112x8x64 : Shape := ⟨5, ![4, 112, 112, 8, 64]⟩
abbrev S4x112x112x64 : Shape := ⟨4, ![4, 112, 112, 64]⟩
abbrev S4x64x112x112 : Shape := ⟨4, ![4, 64, 112, 112]⟩

abbrev nBuf : Space → Nat
  | .hbm => 52
  | .vmem => 0
  | .smem => 0
  | _ => 0

abbrev bufTy : (tb : Table) → Fin (tcTables nBuf tb) → BufTy
  | .hbm, ⟨0, _⟩ => ⟨S4x3x224x224, .f32⟩
  | .hbm, ⟨1, _⟩ => ⟨S1024x3x5x5, .f32⟩
  | .hbm, ⟨2, _⟩ => ⟨S1024, .f32⟩
  | .hbm, ⟨3, _⟩ => ⟨S1024x64, .f32⟩
  | .hbm, ⟨4, _⟩ => ⟨S_, .f32⟩
  | .hbm, ⟨5, _⟩ => ⟨S4x3x228x228, .f32⟩
  | .hbm, ⟨6, _⟩ => ⟨S5x112, .i32⟩
  | .hbm, ⟨7, _⟩ => ⟨S_, .i32⟩
  | .hbm, ⟨8, _⟩ => ⟨S5x112, .i32⟩
  | .hbm, ⟨9, _⟩ => ⟨S5x112, .i32⟩
  | .hbm, ⟨10, _⟩ => ⟨S5x112, .i32⟩
  | .hbm, ⟨11, _⟩ => ⟨S5x112, .i32⟩
  | .hbm, ⟨12, _⟩ => ⟨S_, .i32⟩
  | .hbm, ⟨13, _⟩ => ⟨S5x112, .i32⟩
  | .hbm, ⟨14, _⟩ => ⟨S5x112, .i1⟩
  | .hbm, ⟨15, _⟩ => ⟨S_, .i32⟩
  | .hbm, ⟨16, _⟩ => ⟨S5x112, .i32⟩
  | .hbm, ⟨17, _⟩ => ⟨S5x112, .i32⟩
  | .hbm, ⟨18, _⟩ => ⟨S5x112, .i32⟩
  | .hbm, ⟨19, _⟩ => ⟨S5x112x1, .i32⟩
  | .hbm, ⟨20, _⟩ => ⟨S4x3x5x112x228, .f32⟩
  | .hbm, ⟨21, _⟩ => ⟨S_, .i32⟩
  | .hbm, ⟨22, _⟩ => ⟨S5x112, .i32⟩
  | .hbm, ⟨23, _⟩ => ⟨S5x112, .i1⟩
  | .hbm, ⟨24, _⟩ => ⟨S_, .i32⟩
  | .hbm, ⟨25, _⟩ => ⟨S5x112, .i32⟩
  | .hbm, ⟨26, _⟩ => ⟨S5x112, .i32⟩
  | .hbm, ⟨27, _⟩ => ⟨S5x112, .i32⟩
  | .hbm, ⟨28, _⟩ => ⟨S5x112x1, .i32⟩
  | .hbm, ⟨29, _⟩ => ⟨S4x3x5x112x5x112, .f32⟩
  | .hbm, ⟨30, _⟩ => ⟨S4x112x112x1024, .f32⟩
  | .hbm, ⟨31, _⟩ => ⟨S1x1x1x1024, .f32⟩
  | .hbm, ⟨32, _⟩ => ⟨S4x112x112x1024, .f32⟩
  | .hbm, ⟨33, _⟩ => ⟨S4x112x112x1024, .f32⟩
  | .hbm, ⟨34, _⟩ => ⟨S4x112x112x1024, .f32⟩
  | .hbm, ⟨35, _⟩ => ⟨S4x112x112x8, .f32⟩
  | .hbm, ⟨36, _⟩ => ⟨S4x112x112x8, .i32⟩
  | .hbm, ⟨37, _⟩ => ⟨S_, .i32⟩
  | .hbm, ⟨38, _⟩ => ⟨S4x112x112x8, .i32⟩
  | .hbm, ⟨39, _⟩ => ⟨S4x112x112x8, .i1⟩
  | .hbm, ⟨40, _⟩ => ⟨S_, .i32⟩
  | .hbm, ⟨41, _⟩ => ⟨S4x112x112x8, .i32⟩
  | .hbm, ⟨42, _⟩ => ⟨S4x112x112x8, .i32⟩
  | .hbm, ⟨43, _⟩ => ⟨S4x112x112x8, .i32⟩
  | .hbm, ⟨44, _⟩ => ⟨S4x112x112x8x1, .i32⟩
  | .hbm, ⟨45, _⟩ => ⟨S4x112x112x8x64, .f32⟩
  | .hbm, ⟨46, _⟩ => ⟨S_, .f32⟩
  | .hbm, ⟨47, _⟩ => ⟨S4x112x112x64, .f32⟩
  | .hbm, ⟨48, _⟩ => ⟨S_, .f32⟩
  | .hbm, ⟨49, _⟩ => ⟨S4x112x112x64, .f32⟩
  | .hbm, ⟨50, _⟩ => ⟨S4x112x112x64, .f32⟩
  | .hbm, ⟨51, _⟩ => ⟨S4x64x112x112, .f32⟩
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Select.lean ====
/- The eight nearest of 1024 distances. `ord d` lists the positions with their distances ascending, equal distances in
   the order of their positions. Where the eighth distance and the ninth differ, the positions whose
   distance is at most the eighth smallest one are the first eight of `ord d`. Then the reading of `Host.topK`
   through `ord`. -/
module

public import Idealize.ShloMosaic.PureOps.Ideal.Laws
public import Idealize.ShloMosaic.Lib.SortFacts
public import Idealize.ShloMosaic.Lib.ValueIdxCore
public import Idealize.ShloMosaic.Lib.Pipeline.Value

@[expose] public section

noncomputable section

namespace Cert.Select

open Idealize.ShloMosaic Idealize.ShloMosaic.ValueIdx

/-- The positions in the order of their distances, ascending, equal distances in the order of their positions. -/
def ord (d : Fin 1024 → EReal) : Fin 1024 → Fin 1024 := sortedFrom fun k k' => decide (d k < d k')

theorem ord_injective (d : Fin 1024 → EReal) : Function.Injective (ord d) := sortedFrom_injective _

theorem ord_surjective (d : Fin 1024 → EReal) : Function.Surjective (ord d) := sortedFrom_surjective _

/-- Along `ord d` the distances do not decrease. -/
theorem ord_le (d : Fin 1024 → EReal) (i j : Fin 1024) (h : i ≤ j) : d (ord d i) ≤ d (ord d j) := by
  rcases h.eq_or_lt with rfl | h
  · exact le_rfl
  have := sortedFrom_noInversion (fun k k' => decide (d k < d k')) (fun k k' => decide (d k < d k'))
    (by intro a b; simp only [decide_eq_true_eq, decide_eq_false_iff_not, not_lt]; exact le_of_lt)
    (by intro a b h; exact h)
    (by intro a b c; simp only [decide_eq_false_iff_not, not_lt]; exact fun h1 h2 => h2.trans h1) i j h
  exact not_lt.mp (of_decide_eq_false this)

/-- The first eight positions of `ord d`. -/
def near (d : Fin 1024 → EReal) (k : Fin 8) : Fin 1024 := ord d ⟨k.val, by omega⟩

theorem near_injective (d : Fin 1024 → EReal) : Function.Injective (near d) := fun k k' h =>
  Fin.ext (Fin.mk.inj_iff.mp (ord_injective d h))

/-- Where the eighth and the ninth distance differ, the positions at most at the eighth are the first eight. -/
theorem le_eighth_iff (d : Fin 1024 → EReal) (hne : d (ord d 7) ≠ d (ord d 8)) (n : Fin 1024) :
    d n ≤ d (ord d 7) ↔ ∃ k : Fin 8, near d k = n := by
  constructor
  · intro h
    obtain ⟨k, rfl⟩ := ord_surjective d n
    by_cases hk : k.val < 8
    · exact ⟨⟨k.val, hk⟩, rfl⟩
    · exfalso
      have h8 : d (ord d 8) ≤ d (ord d k) := ord_le d 8 k (by rw [Fin.le_def]; show 8 ≤ k.val; omega)
      have h7 : d (ord d 7) ≤ d (ord d 8) := ord_le d 7 8 (by decide)
      exact hne (le_antisymm h7 (h8.trans h))
  · rintro ⟨k, rfl⟩
    exact ord_le d _ 7 (by rw [Fin.le_def]; show k.val ≤ 7; omega)

/-- The eighth smallest distance is the one threshold under which eight distances lie and below which fewer do. -/
theorem eighth_eq (d : Fin 1024 → EReal) (t : EReal)
    (ht : ∀ c, t ≤ c ↔ 7 < (Finset.univ.filter fun n : Fin 1024 => d n ≤ c).card) : t = d (ord d 7) := by
  apply le_antisymm
  · rw [ht]
    have : (Finset.univ.image (near d)).card = 8 := by
      rw [Finset.card_image_of_injective _ (near_injective d)]; rfl
    have hsub : Finset.univ.image (near d) ⊆ Finset.univ.filter fun n : Fin 1024 => d n ≤ d (ord d 7) := by
      intro n hn
      rw [Finset.mem_image] at hn
      obtain ⟨k, -, rfl⟩ := hn
      rw [Finset.mem_filter]
      exact ⟨Finset.mem_univ _, ord_le d _ 7 (by rw [Fin.le_def]; show k.val ≤ 7; omega)⟩
    have := Finset.card_le_card hsub
    omega
  · by_contra hlt
    rw [not_le] at hlt
    have h7 := (ht t).mp le_rfl
    have hsub : (Finset.univ.filter fun n : Fin 1024 => d n ≤ t) ⊆
        Finset.univ.image fun k : Fin 7 => ord d ⟨k.val, by omega⟩ := by
      intro n hn
      rw [Finset.mem_filter] at hn
      obtain ⟨k, rfl⟩ := ord_surjective d n
      rw [Finset.mem_image]
      have hk : k.val < 7 := by
        by_contra hk
        have := ord_le d 7 k (by rw [Fin.le_def]; show 7 ≤ k.val; omega)
        exact absurd (this.trans hn.2) (not_le.mpr hlt)
      exact ⟨⟨k.val, hk⟩, Finset.mem_univ _, rfl⟩
    have h1 := Finset.card_le_card hsub
    have h2 : (Finset.univ.image fun k : Fin 7 => ord d ⟨k.val, by omega⟩).card ≤ 7 :=
      Finset.card_image_le.trans (by simp)
    omega

/-- Where the eighth and the ninth distance differ, a sum over the positions at most at the eighth is the sum over
    the first eight. -/
theorem sum_near (d : Fin 1024 → EReal) (hne : d (ord d 7) ≠ d (ord d 8)) (f : Fin 1024 → EReal) :
    (∑ n : Fin 1024, if d n ≤ d (ord d 7) then f n else 0) = ∑ k : Fin 8, f (near d k) := by
  rw [← Finset.sum_filter]
  have : (Finset.univ.filter fun n : Fin 1024 => d n ≤ d (ord d 7)) = Finset.univ.image (near d) := by
    ext n
    rw [Finset.mem_filter, Finset.mem_image, le_eighth_iff d hne]
    simp
  rw [this, Finset.sum_image (fun a _ b _ h => near_injective d h)]

/-! ## `Host.topK` of the negated distances -/

/-- The shape of the distances and of the `k` nearest. -/
abbrev T (k : ℕ) : Shape := ⟨4, ![4, 112, 112, k]⟩

/-- Comparing negated distances by "greater" is comparing the distances by "less". -/
theorem gt_neg (a b : EReal) : (FloatOps.cmpfTotal (F := Ideal) (φ := .f32) .gt (-a) (-b) == 1#1) = decide (a < b) := by
  rw [Ideal.cmpfTotal_def]
  have h : decide (-b < -a) = decide (a < b) := by rw [decide_eq_decide]; exact EReal.neg_lt_neg_iff
  show (BitVec.ofBool (decide (-b < -a)) == 1#1) = _
  rw [h]
  cases decide (a < b) <;> rfl

/-- A position of the fiber through an index of the distances. -/
theorem along_eq (b : Fin 4) (y z : Fin 112) (n k : Fin 1024) :
    (ix4 b y z n : (T 1024).Idx).along (3 : Fin 4) k = ix4 b y z k := by
  funext a
  fin_cases a <;> rfl

/-- The sort behind `Host.topK` puts at place `n` of a fiber the position `ord` names. -/
theorem sortedFrom_gt (x d : (T 1024).Idx → EReal) (hx : ∀ i, x i = -(d i)) (b : Fin 4) (y z : Fin 112) (n : Fin 1024) :
    sortedFrom (fun k k' : Fin 1024 => FloatOps.cmpfTotal (F := Ideal) (φ := .f32) .gt
        (x ((ix4 b y z n : (T 1024).Idx).along (3 : Fin 4) k)) (x ((ix4 b y z n : (T 1024).Idx).along (3 : Fin 4) k')) == 1#1) n
      = ord (fun n => d (ix4 b y z n)) n := by
  unfold ord
  congr 1
  funext k k'
  rw [along_eq, along_eq, hx, hx, gt_neg]

/-- The index of the wide array a place of the narrow one is sliced from. -/
theorem slice_idx {k : ℕ} (hk : k ≤ 1024) (h : (T 1024).Slices (fun _ => 0) (T k)) (b : Fin 4) (y z : Fin 112) (r : Fin k) :
    (fun a => ⟨0 + ((ix4 b y z r : (T k).Idx) (a.cast h.1.symm)).val,
      Nat.lt_of_lt_of_le (Nat.add_lt_add_left ((ix4 b y z r : (T k).Idx) _).isLt _) (h.2 a)⟩ : (T 1024).Idx)
      = ix4 b y z ⟨r.val, by omega⟩ := by
  funext a
  apply Fin.ext
  fin_cases a <;> exact Nat.zero_add _

/-- The `r`-th value of `Host.topK` of the negated distances is minus the `r`-th smallest distance. -/
theorem topK_fst {k : ℕ} (hk : k ≤ 1024) (h : (T 1024).Slices (fun _ => 0) (T k)) (x : FVec Ideal (T 1024) .f32)
    (d : (T 1024).Idx → EReal) (hx : ∀ i, x i = -(d i)) (b : Fin 4) (y z : Fin 112) (r : Fin k) :
    (Host.topK (T k) 3 (FloatOps.cmpfTotal (F := Ideal) (φ := .f32) .gt) x h).1 (ix4 b y z r)
      = -(d (ix4 b y z (ord (fun n => d (ix4 b y z n)) ⟨r.val, by omega⟩))) := by
  rw [← hx, ← sortedFrom_gt x d hx, ← along_eq b y z ⟨r.val, by omega⟩]
  unfold Host.topK Host.sort2 extractStridedSlice
  dsimp only
  rw [dif_pos (show 3 < (T 1024).rank by decide), slice_idx hk h]
  rfl

/-- The position array behind `Host.topK` holds along its fibers the positions, as words. -/
theorem iota_along (j : (T 1024).Idx) (p : Fin 1024) :
    (if hd : 3 < (T 1024).rank then iotaInDim (T 1024) 32 ⟨3, hd⟩ (j.along (3 : Fin 4) p) else 0#32)
      = BitVec.ofNat 32 p.val := by
  rw [dif_pos (show 3 < (T 1024).rank by decide)]
  unfold iotaInDim
  rfl

/-- The `r`-th index of `Host.topK` of the negated distances is the position of the `r`-th smallest distance. -/
theorem topK_snd {k : ℕ} (hk : k ≤ 1024) (h : (T 1024).Slices (fun _ => 0) (T k)) (x : FVec Ideal (T 1024) .f32)
    (d : (T 1024).Idx → EReal) (hx : ∀ i, x i = -(d i)) (b : Fin 4) (y z : Fin 112) (r : Fin k) :
    (Host.topK (T k) 3 (FloatOps.cmpfTotal (F := Ideal) (φ := .f32) .gt) x h).2 (ix4 b y z r)
      = BitVec.ofNat 32 (ord (fun n => d (ix4 b y z n)) ⟨r.val, by omega⟩).val := by
  rw [← sortedFrom_gt x d hx]
  unfold Host.topK Host.sort2 extractStridedSlice
  dsimp only
  rw [dif_pos (show 3 < (T 1024).rank by decide), slice_idx hk h]
  exact iota_along _ _

end Cert.Select
-- ==== Proof.Spec.lean ====
/- The mathematics both programs compute: the distances of the patch at an output position to the 1024 patches, over an
   image padded by two zeros on each side, and the average of the values of the eight nearest patches. -/
module

public import proofs.«01_k».proof.Proof.Select
public import Idealize.ShloMosaic.Lib.ValueIdx
public import Idealize.ShloMosaic.Lib.MatmulPlain
public import Idealize.ShloMosaic.Lib.KernelVsHost
public import Idealize.ShloMosaic.Lib.Pointwise.Reduce

@[expose] public section

noncomputable section

namespace Cert.Spec

open Idealize.ShloMosaic hiding ix0 ix1 ix2 ix3 ix4 ix5
open Idealize.ShloMosaic.ValueIdx Cert.Select

/-- Four images of three channels. -/
abbrev Images : Shape := ⟨4, ![4, 3, 224, 224]⟩
/-- 1024 patches of three channels, five by five. -/
abbrev Patches : Shape := ⟨4, ![1024, 3, 5, 5]⟩
/-- A number for each patch. -/
abbrev Biases : Shape := ⟨1, ![1024]⟩
/-- Sixty-four values for each patch. -/
abbrev Values : Shape := ⟨2, ![1024, 64]⟩

/-- The padded image: zero in the two rows and columns around it, and beyond. -/
def pixel (x : FVec Ideal Images .f32) (b : Fin 4) (c : Fin 3) (Y X : ℕ) : EReal :=
  if h : 2 ≤ Y ∧ Y < 226 ∧ 2 ≤ X ∧ X < 226 then
    x (ix4 b c ⟨Y - 2, by omega⟩ ⟨X - 2, by omega⟩)
  else 0

/-- The channel of a patch's entry `3 · (5 · ky + kx) + c`. -/
def chan (m : Fin 75) : Fin 3 := ⟨m.val % 3, by omega⟩
/-- The row of a patch's entry. -/
def row (m : Fin 75) : Fin 5 := ⟨m.val / 3 / 5, by omega⟩
/-- The column of a patch's entry. -/
def column (m : Fin 75) : Fin 5 := ⟨m.val / 3 % 5, by omega⟩

/-- The distance of patch `n` at output position `(y, z)` of image `b`: patches are taken with stride two. -/
def distance (x : FVec Ideal Images .f32) (w : FVec Ideal Patches .f32) (a : FVec Ideal Biases .f32)
    (b : Fin 4) (y z : Fin 112) (n : Fin 1024) : EReal :=
  (∑ m : Fin 75, w (ix4 n (chan m) (row m) (column m))
      * pixel x b (chan m) (2 * y.val + (row m).val) (2 * z.val + (column m).val)) + a (ix1 n)

/-- The eighth and the ninth smallest distance differ. -/
def Untied (d : Fin 1024 → EReal) : Prop := d (ord d 7) ≠ d (ord d 8)

/-- The average value of the eight nearest patches. -/
def average (d : Fin 1024 → EReal) (v : FVec Ideal Values .f32) (u : Fin 64) : EReal :=
  Ideal.div (∑ k : Fin 8, v (ix2 (near d k) u)) 8

end Cert.Spec
-- ==== Proof.Entry.lean ====
/- The arrays the region reads, as it finds them, at an index: the two half images of the padded image, the weights with
   their entries reordered, the biases as a column, and the values transposed. -/
module

public import proofs.«01_k».proof.Proof.Spec
public import proofs.«01_k».proof.Proof.Gen.KernelIdeal.Frame

@[expose] public section

set_option maxRecDepth 16384

noncomputable section

namespace Cert.KernelIdeal.Entry

open Idealize.ShloMosaic hiding ix0 ix1 ix2 ix3 ix4 ix5
open Idealize.ShloMosaic.ValueIdx Idealize.ShloMosaic.TcCoe Cert.KernelIdeal Cert.KernelIdeal.Gen Cert.Spec

/-! ## The host operations' terms -/

/-- The image padded with zeros. -/
def padded (x : FVec Ideal S4x3x224x224 .f32) : FVec Ideal S4x3x228x260 .f32 :=
  pad S4x3x228x260 ![0, 0, 2, 2] ![0, 0, 2, 34] ![0, 0, 0, 0] x (sitofp .f32 (constantI S_ 32 0#32)) (by decide)

/-- The columns of one parity of the padded image, rows in pairs. -/
def half (x : FVec Ideal S4x3x224x224 .f32) (e : ℕ) (h : S4x3x228x130x2.Slices ![0, 0, 0, 0, e] S4x3x228x130x1) :
    FVec Ideal S4x3x114x2x130 .f32 :=
  shapeCast S4x3x114x2x130 (shapeCast S4x3x228x130 (extractStridedSlice S4x3x228x130x1 ![0, 0, 0, 0, e]
    (shapeCast S4x3x228x130x2 (padded x) shapeCasts_S4x3x228x260_S4x3x228x130x2) h)
    shapeCasts_S4x3x228x130x1_S4x3x228x130) shapeCasts_S4x3x228x130_S4x3x114x2x130

/-- The weights with the channel last among a patch's coordinates, as a matrix. -/
def weights (w : FVec Ideal S1024x3x5x5 .f32) : FVec Ideal S1024x75 .f32 :=
  shapeCast S1024x75 (transpose S1024x25x3 [0, 2, 1] (shapeCast S1024x3x25 w shapeCasts_S1024x3x5x5_S1024x3x25)
    transposes_S1024x3x25_S1024x25x3_0_2_1) shapeCasts_S1024x25x3_S1024x75

/-! ## At an index -/

/-- A padding entry is zero. -/
theorem padding_eq (i : S_.Idx) : (sitofp .f32 (constantI S_ 32 0#32) : FVec Ideal S_ .f32) i = 0 := by
  show (((0#32 : BitVec 32).toInt : ℝ) : EReal) = 0
  simp

theorem padded_apply (x : FVec Ideal S4x3x224x224 .f32) (b : Fin 4) (k : Fin 3) (Y : Fin 228) (X : Fin 260) :
    padded x (ix4 b k Y X) = pixel x b k Y.val X.val := by
  unfold padded pixel
  split
  · rename_i h
    refine pad_apply_of_inside _ _ _ _ _ _ _ _ (ix4 b k ⟨Y.val - 2, by omega⟩ ⟨X.val - 2, by omega⟩) ?_
    intro a
    match a with
    | ⟨0, _⟩ => show b.val = 0 + b.val * (0 + 1); omega
    | ⟨1, _⟩ => show k.val = 0 + k.val * (0 + 1); omega
    | ⟨2, _⟩ => show Y.val = 2 + (Y.val - 2) * (0 + 1); omega
    | ⟨3, _⟩ => show X.val = 2 + (X.val - 2) * (0 + 1); omega
  · rename_i h
    by_cases hY : 2 ≤ Y.val ∧ Y.val < 226
    · refine (pad_apply_of_not_inside _ _ _ _ _ _ _ _ (3 : Fin 4) ?_).trans (padding_eq _)
      show ¬ (2 ≤ X.val ∧ (X.val - 2) % (0 + 1) = 0 ∧ (X.val - 2) / (0 + 1) < 224)
      omega
    · refine (pad_apply_of_not_inside _ _ _ _ _ _ _ _ (2 : Fin 4) ?_).trans (padding_eq _)
      show ¬ (2 ≤ Y.val ∧ (Y.val - 2) % (0 + 1) = 0 ∧ (Y.val - 2) / (0 + 1) < 224)
      omega

/-- A half image's entry is the padded image's, at row `2 · Y + q` and column `2 · X + e`. -/
theorem half_apply (x : FVec Ideal S4x3x224x224 .f32) (e : ℕ) (h) (b : Fin 4) (k : Fin 3) (Y : Fin 114) (q : Fin 2) (X : Fin 130)
    (he : e < 2) : half x e h (ix5 b k Y q X) = pixel x b k (2 * Y.val + q.val) (2 * X.val + e) := by
  unfold half
  rw [shapeCast_apply (s := S4x3x228x130) (t := S4x3x114x2x130) _ _ (ix5 b k Y q X) (ix4 b k ⟨2 * Y.val + q.val, by omega⟩ X)
      (by
        rw [Shape.rowMajor_val_four, Shape.rowMajor_val_five]
        show ((b.val * 3 + k.val) * 228 + (2 * Y.val + q.val)) * 130 + X.val
          = (((b.val * 3 + k.val) * 114 + Y.val) * 2 + q.val) * 130 + X.val
        omega),
    shapeCast_apply (s := S4x3x228x130x1) (t := S4x3x228x130) _ _ (ix4 b k ⟨2 * Y.val + q.val, by omega⟩ X)
      (ix5 b k ⟨2 * Y.val + q.val, by omega⟩ X 0)
      (by
        rw [Shape.rowMajor_val_four, Shape.rowMajor_val_five]
        show (((b.val * 3 + k.val) * 228 + (2 * Y.val + q.val)) * 130 + X.val) * 1 + 0
          = ((b.val * 3 + k.val) * 228 + (2 * Y.val + q.val)) * 130 + X.val
        omega),
    extractStridedSlice_apply _ _ _ (ix5 b k ⟨2 * Y.val + q.val, by omega⟩ X 0) (ix5 b k ⟨2 * Y.val + q.val, by omega⟩ X ⟨e, he⟩)
      (by
        intro a
        match a with
        | ⟨0, _⟩ => show b.val = 0 + b.val; omega
        | ⟨1, _⟩ => show k.val = 0 + k.val; omega
        | ⟨2, _⟩ => show 2 * Y.val + q.val = 0 + (2 * Y.val + q.val); omega
        | ⟨3, _⟩ => show X.val = 0 + X.val; omega
        | ⟨4, _⟩ => rfl),
    shapeCast_apply (s := S4x3x228x260) (t := S4x3x228x130x2) _ _ (ix5 b k ⟨2 * Y.val + q.val, by omega⟩ X ⟨e, he⟩)
      (ix4 b k ⟨2 * Y.val + q.val, by omega⟩ ⟨2 * X.val + e, by omega⟩)
      (by
        rw [Shape.rowMajor_val_four, Shape.rowMajor_val_five]
        show ((b.val * 3 + k.val) * 228 + (2 * Y.val + q.val)) * 260 + (2 * X.val + e)
          = (((b.val * 3 + k.val) * 228 + (2 * Y.val + q.val)) * 130 + X.val) * 2 + e
        omega),
    padded_apply]

/-- An entry of the weight matrix is the weight of a channel, a row and a column. -/
theorem weights_apply (w : FVec Ideal S1024x3x5x5 .f32) (n : Fin 1024) (j : Fin 75) :
    weights w (ix2 n j) = w (ix4 n (chan j) (row j) (column j)) := by
  unfold weights
  rw [shapeCast_apply (s := S1024x25x3) (t := S1024x75) _ _ (ix2 n j) (ix3 n ⟨j.val / 3, by omega⟩ (chan j))
      (by
        rw [Shape.rowMajor_val_two, Shape.rowMajor_val_three]
        show (n.val * 25 + j.val / 3) * 3 + j.val % 3 = n.val * 75 + j.val
        omega),
    transpose_apply _ _ _ (ix3 n ⟨j.val / 3, by omega⟩ (chan j)) (ix3 n (chan j) ⟨j.val / 3, by omega⟩)
      (by
        intro a
        match a with
        | ⟨0, _⟩ => rfl
        | ⟨1, _⟩ => rfl
        | ⟨2, _⟩ => rfl),
    shapeCast_apply (s := S1024x3x5x5) (t := S1024x3x25) _ _ (ix3 n (chan j) ⟨j.val / 3, by omega⟩) (ix4 n (chan j) (row j) (column j))
      (by
        rw [Shape.rowMajor_val_four, Shape.rowMajor_val_three]
        show ((n.val * 3 + j.val % 3) * 5 + j.val / 3 / 5) * 5 + j.val / 3 % 5 = (n.val * 3 + j.val % 3) * 25 + j.val / 3
        omega)]

/-! ## The arrays -/

variable (m : (ℓ : Loc nD τ sig) → Buf (Elt Ideal) ℓ) (c : Dev nD)

/-- The even columns' half image. -/
theorem V_even : V m c main_v4 = half (m ((c : Thread nD τ).loc main_arg0)) 0 slices_S4x3x228x130x2_S4x3x228x130x1_0_0_0_0_0 := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append]
  after_results
  rfl

/-- The odd columns' half image. -/
theorem V_odd : V m c main_v7 = half (m ((c : Thread nD τ).loc main_arg0)) 1 slices_S4x3x228x130x2_S4x3x228x130x1_0_0_0_0_1 := by
  show StableHlo.after (List.flatten [hostOps0, hostOps0_1, hostOps0_2]) _ (Proc.devRef .tc main_v7) = _
  simp only [hostOps0, hostOps0_1, hostOps0_2, List.flatten_cons, List.flatten_nil, List.append_nil, List.cons_append, List.nil_append]
  after_results
  rfl

/-- The weight matrix. -/
theorem V_weights : V m c main_v10 = weights (m ((c : Thread nD τ).loc main_arg1)) := by
  show StableHlo.after (List.flatten [hostOps0, hostOps0_1, hostOps0_2]) _ (Proc.devRef .tc main_v10) = _
  simp only [hostOps0, hostOps0_1, hostOps0_2, List.flatten_cons, List.flatten_nil, List.append_nil, List.cons_append, List.nil_append]
  after_results
  rfl

/-- The biases. -/
theorem V_bias (n : Fin 1024) : V m c main_v11 (ix2 n 0) = m ((c : Thread nD τ).loc main_arg2) (ix1 n) := by
  have e : V m c main_v11 = shapeCast S1024x1 (m ((c : Thread nD τ).loc main_arg2) : FVec Ideal S1024 .f32) shapeCasts_S1024_S1024x1 := by
    show StableHlo.after (List.flatten [hostOps0, hostOps0_1, hostOps0_2]) _ (Proc.devRef .tc main_v11) = _
    simp only [hostOps0, hostOps0_1, hostOps0_2, List.flatten_cons, List.flatten_nil, List.append_nil, List.cons_append, List.nil_append]
    after_results
    rfl
  rw [e]
  exact shapeCast_apply (s := S1024) (t := S1024x1) _ _ (ix2 n 0) (ix1 n)
    (by rw [Shape.rowMajor_val_one, Shape.rowMajor_val_two]; show n.val = n.val * 1 + 0; omega)

/-- The values, transposed. -/
theorem V_values (u : Fin 64) (n : Fin 1024) : V m c main_v12 (ix2 u n) = m ((c : Thread nD τ).loc main_arg3) (ix2 n u) := by
  have e : V m c main_v12 = transpose S64x1024 [1, 0] (m ((c : Thread nD τ).loc main_arg3) : FVec Ideal S1024x64 .f32)
      transposes_S1024x64_S64x1024_1_0 := by
    show StableHlo.after (List.flatten [hostOps0, hostOps0_1, hostOps0_2]) _ (Proc.devRef .tc main_v12) = _
    simp only [hostOps0, hostOps0_1, hostOps0_2, List.flatten_cons, List.flatten_nil, List.append_nil, List.cons_append, List.nil_append]
    after_results
  rw [e]
  refine transpose_apply _ _ _ (ix2 u n) (ix2 n u) ?_
  intro a
  match a with
  | ⟨0, _⟩ => rfl
  | ⟨1, _⟩ => rfl

end Cert.KernelIdeal.Entry
-- ==== Proof.Net.lean ====
/- The selection network, over any type with two binary operations: eight wires sorted by nineteen
   compare-exchanges, and two sorted sets of eight merged into the eight least of their sixteen values.
   What the network computes is said by counting: a threshold `c` cuts each wire to a truth value,
   and a sorted set of eight is, at every threshold, a run of `true` followed by a run of `false`.  -/
module

public import Idealize.ShloMosaic.PureOps.Ideal.Laws
public import Mathlib.Algebra.BigOperators.Fin
public import Mathlib.Tactic.FinCases
public import Mathlib.Tactic.Ring

@[expose] public section

namespace Cert.Net

/-- Eight wires. -/
structure Oct (α : Type) where
  /-- wire 0 -/
  w0 : α
  /-- wire 1 -/
  w1 : α
  /-- wire 2 -/
  w2 : α
  /-- wire 3 -/
  w3 : α
  /-- wire 4 -/
  w4 : α
  /-- wire 5 -/
  w5 : α
  /-- wire 6 -/
  w6 : α
  /-- wire 7 -/
  w7 : α

variable {α β : Type}

/-- A function applied to every wire. -/
def Oct.map (f : α → β) (s : Oct α) : Oct β :=
  ⟨f s.w0, f s.w1, f s.w2, f s.w3, f s.w4, f s.w5, f s.w6, f s.w7⟩

/-- Compare-exchanges of wires 0–1, 2–3, 4–5, 6–7. -/
def Oct.pairs (mn mx : α → α → α) (s : Oct α) : Oct α :=
  ⟨mn s.w0 s.w1, mx s.w0 s.w1, mn s.w2 s.w3, mx s.w2 s.w3, mn s.w4 s.w5, mx s.w4 s.w5, mn s.w6 s.w7, mx s.w6 s.w7⟩
/-- Compare-exchanges of wires 0–2, 1–3, 4–6, 5–7. -/
def Oct.twos (mn mx : α → α → α) (s : Oct α) : Oct α :=
  ⟨mn s.w0 s.w2, mn s.w1 s.w3, mx s.w0 s.w2, mx s.w1 s.w3, mn s.w4 s.w6, mn s.w5 s.w7, mx s.w4 s.w6, mx s.w5 s.w7⟩
/-- Compare-exchanges of wires 0–4, 1–5, 2–6, 3–7. -/
def Oct.fours (mn mx : α → α → α) (s : Oct α) : Oct α :=
  ⟨mn s.w0 s.w4, mn s.w1 s.w5, mn s.w2 s.w6, mn s.w3 s.w7, mx s.w0 s.w4, mx s.w1 s.w5, mx s.w2 s.w6, mx s.w3 s.w7⟩
/-- Compare-exchanges of wires 1–2, 5–6. -/
def Oct.inner (mn mx : α → α → α) (s : Oct α) : Oct α :=
  ⟨s.w0, mn s.w1 s.w2, mx s.w1 s.w2, s.w3, s.w4, mn s.w5 s.w6, mx s.w5 s.w6, s.w7⟩
/-- Compare-exchanges of wires 2–4, 3–5. -/
def Oct.cross (mn mx : α → α → α) (s : Oct α) : Oct α :=
  ⟨s.w0, s.w1, mn s.w2 s.w4, mn s.w3 s.w5, mx s.w2 s.w4, mx s.w3 s.w5, s.w6, s.w7⟩
/-- Compare-exchanges of wires 1–2, 3–4, 5–6. -/
def Oct.last (mn mx : α → α → α) (s : Oct α) : Oct α :=
  ⟨s.w0, mn s.w1 s.w2, mx s.w1 s.w2, mn s.w3 s.w4, mx s.w3 s.w4, mn s.w5 s.w6, mx s.w5 s.w6, s.w7⟩

/-- The eight wires sorted: two sorts of four, then their odd-even merge. -/
def Oct.sort (mn mx : α → α → α) (s : Oct α) : Oct α :=
  ((((((s.pairs mn mx).twos mn mx).inner mn mx).fours mn mx).cross mn mx).last mn mx)

/-- The least of wire `i` of one set and wire `7 - i` of another. -/
def Oct.fold (mn : α → α → α) (a b : Oct α) : Oct α :=
  ⟨mn a.w0 b.w7, mn a.w1 b.w6, mn a.w2 b.w5, mn a.w3 b.w4, mn a.w4 b.w3, mn a.w5 b.w2, mn a.w6 b.w1, mn a.w7 b.w0⟩

/-- Two sorted sets of eight merged into the eight least of their sixteen values, sorted. -/
def Oct.merge (mn mx : α → α → α) (a b : Oct α) : Oct α :=
  ((((a.fold mn b).fours mn mx).twos mn mx).pairs mn mx)

/-- A map that carries one pair of operations to another carries the sort to the sort. -/
theorem Oct.map_sort (f : α → β) (mn mx : α → α → α) (mn' mx' : β → β → β) (hn : ∀ x y, f (mn x y) = mn' (f x) (f y))
    (hx : ∀ x y, f (mx x y) = mx' (f x) (f y)) (s : Oct α) : (s.sort mn mx).map f = (s.map f).sort mn' mx' := by
  simp only [Oct.sort, Oct.pairs, Oct.twos, Oct.inner, Oct.fours, Oct.cross, Oct.last, Oct.map, hn, hx]

/-- A map that carries one pair of operations to another carries the merge to the merge. -/
theorem Oct.map_merge (f : α → β) (mn mx : α → α → α) (mn' mx' : β → β → β) (hn : ∀ x y, f (mn x y) = mn' (f x) (f y))
    (hx : ∀ x y, f (mx x y) = mx' (f x) (f y)) (a b : Oct α) :
    (a.merge mn mx b).map f = (a.map f).merge mn' mx' (b.map f) := by
  simp only [Oct.merge, Oct.fold, Oct.pairs, Oct.twos, Oct.fours, Oct.map, hn, hx]

theorem Oct.map_map {γ : Type} (f : α → β) (g : β → γ) (s : Oct α) : (s.map f).map g = s.map (fun x => g (f x)) := rfl

/-- The truth values of eight sorted wires of which `n` lie under a threshold. -/
def run (n : ℕ) : Oct Bool :=
  ⟨decide (0 < n), decide (1 < n), decide (2 < n), decide (3 < n), decide (4 < n), decide (5 < n), decide (6 < n), decide (7 < n)⟩

/-- `run` does not tell counts past eight apart. -/
theorem run_min (n : ℕ) : run n = run (min n 8) := by
  unfold run
  congr 1 <;> (rw [decide_eq_decide]; omega)

/-- One for a true value and none for a false one. -/
abbrev one (b : Bool) : ℕ := if b then 1 else 0

/-- How many of the eight wires are true. -/
def Oct.count (s : Oct Bool) : ℕ :=
  one s.w0 + one s.w1 + one s.w2 + one s.w3 + one s.w4 + one s.w5 + one s.w6 + one s.w7

/-- On truth values the sort is the run of as many. -/
theorem sort_bool (s : Oct Bool) : s.sort or and = run s.count := by
  obtain ⟨b0, b1, b2, b3, b4, b5, b6, b7⟩ := s
  cases b0 <;> cases b1 <;> cases b2 <;> cases b3 <;> cases b4 <;> cases b5 <;> cases b6 <;> cases b7 <;> rfl

/-- On runs of at most eight the merge is the run of the sum. -/
theorem merge_run_le (p q : Fin 9) : (run p.val).merge or and (run q.val) = run (p.val + q.val) := by
  fin_cases p <;> fin_cases q <;> rfl

/-- On runs the merge is the run of the sum. -/
theorem merge_run (p q : ℕ) : (run p).merge or and (run q) = run (p + q) := by
  have h := merge_run_le ⟨min p 8, by omega⟩ ⟨min q 8, by omega⟩
  rw [run_min p, run_min q, h, run_min, run_min (p + q)]
  congr 1
  dsimp only
  omega

variable [LinearOrder α]

/-- Whether a value lies under a threshold. -/
def under (c x : α) : Bool := decide (x ≤ c)

theorem under_min (c x y : α) : under c (min x y) = (under c x || under c y) := by
  unfold under
  rw [← Bool.decide_or, decide_eq_decide]
  exact min_le_iff

theorem under_max (c x y : α) : under c (max x y) = (under c x && under c y) := by
  unfold under
  rw [← Bool.decide_and, decide_eq_decide]
  exact max_le_iff

/-- At every threshold, the sorted wires are the run of as many as lay under it. -/
theorem sort_under (c : α) (s : Oct α) : (s.sort min max).map (under c) = run (s.map (under c)).count := by
  rw [Oct.map_sort (under c) min max or and (under_min c) (under_max c), sort_bool]

/-- At every threshold, the merge of two runs is the run of the sum of the counts. -/
theorem merge_under (c : α) (a b : Oct α) (p q : ℕ) (ha : a.map (under c) = run p) (hb : b.map (under c) = run q) :
    (a.merge min max b).map (under c) = run (p + q) := by
  rw [Oct.map_merge (under c) min max or and (under_min c) (under_max c), ha, hb, merge_run]

/-- How many of the values `d n` with `n` in the residue class `ρ` modulo `R` lie under the threshold `c`. -/
def cnt (d : Fin 1024 → α) (R ρ : ℕ) (c : α) : ℕ := (Finset.univ.filter fun n : Fin 1024 => n.val % R = ρ ∧ d n ≤ c).card

/-- A residue class modulo `h` is two residue classes modulo `2 h`. -/
theorem cnt_halve (d : Fin 1024 → α) (h ρ : ℕ) (hρ : ρ < h) (c : α) :
    cnt d h ρ c = cnt d (h + h) ρ c + cnt d (h + h) (h + ρ) c := by
  unfold cnt
  rw [← Finset.card_union_of_disjoint]
  · congr 1
    ext n
    simp only [Finset.mem_filter, Finset.mem_univ, true_and, Finset.mem_union]
    have h1 : n.val % (h + h) % h = n.val % h := Nat.mod_mod_of_dvd _ ⟨2, by ring⟩
    have h2 : n.val % (h + h) < h + h := Nat.mod_lt _ (by omega)
    have h3 : n.val % h = ρ ↔ n.val % (h + h) = ρ ∨ n.val % (h + h) = h + ρ := by
      rw [← h1]
      constructor
      · intro e
        by_cases hlt : n.val % (h + h) < h
        · rw [Nat.mod_eq_of_lt hlt] at e; exact Or.inl e
        · right
          rw [Nat.mod_eq_sub_mod (by omega), Nat.mod_eq_of_lt (by omega)] at e
          omega
      · rintro (e | e) <;> rw [e]
        · exact Nat.mod_eq_of_lt hρ
        · rw [Nat.add_mod_left]; exact Nat.mod_eq_of_lt hρ
    rw [h3]
    tauto
  · rw [Finset.disjoint_filter]
    rintro n - ⟨e, -⟩ ⟨e', -⟩
    omega

/-- Every index is in the one residue class modulo 1. -/
theorem cnt_one (d : Fin 1024 → α) (c : α) : cnt d 1 0 c = (Finset.univ.filter fun n : Fin 1024 => d n ≤ c).card := by
  unfold cnt
  congr 1
  ext n
  simp [Nat.mod_one]

/-- The eight values of one residue class modulo 128, counted. -/
theorem cnt_init (d : Fin 1024 → α) (ρ : Fin 128) (c : α) (s : Oct α)
    (h0 : s.w0 = d ⟨0 + ρ.val, by omega⟩) (h1 : s.w1 = d ⟨128 + ρ.val, by omega⟩) (h2 : s.w2 = d ⟨256 + ρ.val, by omega⟩)
    (h3 : s.w3 = d ⟨384 + ρ.val, by omega⟩) (h4 : s.w4 = d ⟨512 + ρ.val, by omega⟩) (h5 : s.w5 = d ⟨640 + ρ.val, by omega⟩)
    (h6 : s.w6 = d ⟨768 + ρ.val, by omega⟩) (h7 : s.w7 = d ⟨896 + ρ.val, by omega⟩) :
    (s.map (under c)).count = cnt d 128 ρ.val c := by
  have hsum : cnt d 128 ρ.val c = ∑ k : Fin 8, if d ⟨128 * k.val + ρ.val, by omega⟩ ≤ c then 1 else 0 := by
    unfold cnt
    rw [← Finset.sum_filter, ← Finset.card_eq_sum_ones]
    symm
    refine Finset.card_bij (fun k _ => ⟨128 * k.val + ρ.val, by omega⟩) ?_ ?_ ?_
    · intro k hk
      simp only [Finset.mem_filter, Finset.mem_univ, true_and] at hk ⊢
      exact ⟨by omega, hk⟩
    · intro k _ k' _ e
      simp only [Fin.mk.injEq] at e
      exact Fin.ext (by omega)
    · intro n hn
      simp only [Finset.mem_filter, Finset.mem_univ, true_and] at hn
      have e : (⟨128 * (n.val / 128) + ρ.val, by omega⟩ : Fin 1024) = n := Fin.ext (by dsimp only; omega)
      refine ⟨⟨n.val / 128, by omega⟩, ?_, e⟩
      simp only [Finset.mem_filter, Finset.mem_univ, true_and]
      rw [e]
      exact hn.2
  rw [hsum, Fin.sum_univ_eight]
  simp only [Oct.count, Oct.map, one, under, h0, h1, h2, h3, h4, h5, h6, h7, decide_eq_true_eq]
  rfl

end Cert.Net
-- ==== Proof.Block.lean ====
/- What one grid point computes, written as whole-vector operations: the patches of four output rows gathered into a
   75 × 512 matrix, their distances to the 1024 patches, the eighth smallest distance of every column by the
   selection network, and the average of the values whose distance is at most that. Then: the contents the body
   leaves in the output block are this. -/
module

public import proofs.«01_k».proof.Proof.Net
public import proofs.«01_k».proof.Proof.Gen.KernelIdeal.Frame

@[expose] public section

set_option maxRecDepth 16384

noncomputable section

namespace Cert.KernelIdeal.Block

open Idealize.ShloMosaic Cert.Net Cert.KernelIdeal Cert.KernelIdeal.Gen

variable {F : FTy → Type} [FloatOps F]

/-! ## The patches -/

/-- The offsets of a load: the row `4 · iy + r + q` of the half image of parity `n / 3`, from column `n % 3`. -/
def off (i : grid0.Coords) (n : Fin 6) (r : Fin 4) (q : Fin 3) : Fin 5 → ℕ :=
  match n with
  | 0 => k0_off1 i (BitVec.ofNat 32 r.val) (BitVec.ofNat 32 q.val)
  | 1 => k0_off2 i (BitVec.ofNat 32 r.val) (BitVec.ofNat 32 q.val)
  | 2 => k0_off3 i (BitVec.ofNat 32 r.val) (BitVec.ofNat 32 q.val)
  | 3 => k0_off4 i (BitVec.ofNat 32 r.val) (BitVec.ofNat 32 q.val)
  | 4 => k0_off5 i (BitVec.ofNat 32 r.val) (BitVec.ofNat 32 q.val)
  | 5 => k0_off6 i (BitVec.ofNat 32 r.val) (BitVec.ofNat 32 q.val)

/-- A load of 128 columns of one row fits in the half image. -/
def Fits (o : Fin 5 → ℕ) : Prop := ∀ a, o a + S1x3x1x1x128.size a ≤ S1x3x114x2x130.size a

/-- Three channels of 128 columns of one row, as a 3 × 128 matrix. -/
def piece (v : FVec F S1x3x1x1x128 .f32) : FVec F S3x128 .f32 :=
  shapeCast S3x128 (shapeCast S3x1x128 v shapeCasts_S1x3x1x1x128_S3x1x128) shapeCasts_S3x1x128_S3x128

/-- The kernel tap `k = 5 · ky + kx` reads the half images' part `3 · (ky % 2) + kx / 2`. -/
def part (k : Fin 25) : Fin 6 := ⟨3 * (k.val / 5 % 2) + k.val % 5 / 2, by omega⟩

/-- The kernel tap `k = 5 · ky + kx` reads `ky / 2` rows down. -/
def down (k : Fin 25) : Fin 3 := ⟨k.val / 5 / 2, by omega⟩

variable (ld : (e : Bool) → (o : Fin 5 → ℕ) → Fits o → FVec F S1x3x1x1x128 .f32)

/-- The rows of the patch matrix that belong to one kernel tap: four rows of the image side by side. The loads come from
    the even columns' half image (`true`) or the odd columns' (`false`), by the parity of the tap's column. -/
def tap (i : grid0.Coords) (hf : ∀ k r, Fits (off i (part k) r (down k))) (k : Fin 25) : FVec F S3x512 .f32 :=
  concatenate S3x512 1
    (List.ofFn fun r : Fin 4 => (⟨S3x128, piece (ld (k.val % 5 % 2 == 0) (off i (part k) r (down k)) (hf _ _))⟩ :
      (s : Shape) × FVec F s .f32))
    concatenates_S3x128_S3x128_S3x128_S3x128_S3x512_d1

/-- The patch matrix: 75 rows, three for each of the 25 kernel taps; a column for each of 512 output positions. -/
def patches (i : grid0.Coords) (hf : ∀ k r, Fits (off i (part k) r (down k))) : FVec F S75x512 .f32 :=
  concatenate S75x512 0
    (List.ofFn fun k : Fin 25 => (⟨S3x512, tap ld i hf k⟩ : (s : Shape) × FVec F s .f32))
    concatenates_S3x512_S3x512_S3x512_S3x512_S3x512_S3x512_S3x512_S3x512_S3x512_S3x512_S3x512_S3x512_S3x512_S3x512_S3x512_S3x512_S3x512_S3x512_S3x512_S3x512_S3x512_S3x512_S3x512_S3x512_S3x512_S75x512_d0

/-- The distances of a patch matrix's columns to the 1024 patches: the products with the weights, plus the bias. -/
def dist (w : FVec F S1024x75 .f32) (b : FVec F S1024x1 .f32) (p : FVec F S75x512 .f32) : FVec F S1024x512 .f32 :=
  addf (matmul dot_S1024x75_S75x512_S1024x512_1_0_0_1_n_n none (shapeCast S1024x75 w shapeCasts_S1024x75_S1024x75) p
      (constant S1024x512 .f32 0x00000000#32))
    (broadcastTo S1024x512 (shapeCast S1024x1 b shapeCasts_S1024x1_S1024x1) broadcasts_S1024x1_S1024x512)

/-! ## The eighth smallest distance -/

/-- A matrix of `h` rows and 512 columns. -/
abbrev M (h : ℕ) : Shape := ⟨2, ![h, 512]⟩

/-- Eight slabs of 128 rows. -/
def slabs (d : FVec F (M 1024) .f32) : Oct (FVec F (M 128) .f32) :=
  ⟨extractStridedSlice (M 128) ![0, 0] d (by decide), extractStridedSlice (M 128) ![128, 0] d (by decide),
   extractStridedSlice (M 128) ![256, 0] d (by decide), extractStridedSlice (M 128) ![384, 0] d (by decide),
   extractStridedSlice (M 128) ![512, 0] d (by decide), extractStridedSlice (M 128) ![640, 0] d (by decide),
   extractStridedSlice (M 128) ![768, 0] d (by decide), extractStridedSlice (M 128) ![896, 0] d (by decide)⟩

/-- Eight sorted slabs of `H` rows merged into eight sorted slabs of `h`, half as many: the upper rows with the lower. -/
def step (h H : ℕ) (h0 : (M H).Slices ![0, 0] (M h)) (h1 : (M H).Slices ![h, 0] (M h)) (s : Oct (FVec F (M H) .f32)) :
    Oct (FVec F (M h) .f32) :=
  (s.map fun v => extractStridedSlice (M h) ![0, 0] v h0).merge minimumf maximumf
    (s.map fun v => extractStridedSlice (M h) ![h, 0] v h1)

/-- The eighth smallest distance of every column. -/
def eighth (d : FVec F (M 1024) .f32) : FVec F (M 1) .f32 :=
  (step 1 2 (by decide) (by decide) <| step 2 4 (by decide) (by decide) <| step 4 8 (by decide) (by decide) <|
    step 8 16 (by decide) (by decide) <| step 16 32 (by decide) (by decide) <| step 32 64 (by decide) (by decide) <|
    step 64 128 (by decide) (by decide) <| (slabs d).sort minimumf maximumf).w7

/-! ## The average -/

/-- One where the distance is at most the threshold, zero elsewhere. -/
def mask (d : FVec F S1024x512 .f32) (t : FVec F S1x512 .f32) : FVec F S1024x512 .f32 :=
  select (cmpf .ole d (broadcastTo S1024x512 t broadcasts_S1x512_S1024x512))
    (broadcast S1024x512 (Scalar.ofBits .f32 0x3F800000#32)) (broadcast S1024x512 (Scalar.ofBits .f32 0x00000000#32))

/-- The values summed over a mask, divided by the number of ones of the mask. -/
def average (k : FVec F S1024x512 .f32) (v : FVec F S64x1024 .f32) : FVec F S64x512 .f32 :=
  divf (matmul dot_S64x1024_S1024x512_S64x512_1_0_0_1_n_n none (shapeCast S64x1024 v shapeCasts_S64x1024_S64x1024) k
      (constant S64x512 .f32 0x00000000#32))
    (broadcastTo S64x512 (shapeCast S1x512
      (multiReduction .add [0] S512 k 0x00000000#32 reduces_S1024x512_S512 (.inl rfl) rfl) shapeCasts_S512_S1x512)
      broadcasts_S1x512_S64x512)

/-- What the body computes from its distances and the values. -/
def result (d : FVec F S1024x512 .f32) (v : FVec F S64x1024 .f32) : FVec F S64x512 .f32 := average (mask d (eighth d)) v

/-! ## The body's piece -/

/-- The loads of the six parts in closed form; the odd half of the rows has one row less below. -/
theorem off_eq (i : grid0.Coords) (n : Fin 6) (r : Fin 4) (q : Fin 3) (h : n.val < 3 ∨ q.val < 2) :
    off i n r q = ![0, 0, 4 * (i 1).val + r.val + q.val, n.val / 3, n.val % 3] := by
  match n, h with
  | 0, _ => exact k0_off1_eq i r q
  | 1, _ => exact k0_off2_eq i r q
  | 2, _ => exact k0_off3_eq i r q
  | 3, h => exact k0_off4_eq i r ⟨q.val, h.resolve_left (by decide)⟩
  | 4, h => exact k0_off5_eq i r ⟨q.val, h.resolve_left (by decide)⟩
  | 5, h => exact k0_off6_eq i r ⟨q.val, h.resolve_left (by decide)⟩

/-- The offsets of a kernel tap's load. -/
theorem tap_off_eq (i : grid0.Coords) (k : Fin 25) (r : Fin 4) :
    off i (part k) r (down k)
      = ![0, 0, 4 * (i 1).val + r.val + k.val / 5 / 2, k.val / 5 % 2, k.val % 5 / 2] := by
  rw [off_eq i (part k) r (down k) (by unfold part down; dsimp only; omega)]
  unfold part down
  dsimp only
  rw [show (3 * (k.val / 5 % 2) + k.val % 5 / 2) / 3 = k.val / 5 % 2 by omega,
    show (3 * (k.val / 5 % 2) + k.val % 5 / 2) % 3 = k.val % 5 / 2 by omega]

/-- A kernel tap's loads fit. -/
theorem fits (i : grid0.Coords) (k : Fin 25) (r : Fin 4) : Fits (off i (part k) r (down k)) := by
  rw [tap_off_eq]
  have hi : (i 1).val < 28 := (i 1).isLt
  intro a
  fin_cases a
  · show 0 + 1 ≤ 1; omega
  · show 0 + 3 ≤ 3; omega
  · show 4 * (i 1).val + r.val + k.val / 5 / 2 + 1 ≤ 114; omega
  · show k.val / 5 % 2 + 1 ≤ 2; omega
  · show k.val % 5 / 2 + 128 ≤ 130; omega

/-- The load of the six parts from the two half images. -/
def load (x1 x2 : FVec F S1x3x114x2x130 .f32) (e : Bool) (o : Fin 5 → ℕ) (h : Fits o) : FVec F S1x3x1x1x128 .f32 :=
  fun x => (if e then x1 else x2) ((Rect.unit (s := S1x3x114x2x130) o S1x3x1x1x128.size h).idx x)

/-- The body's one store: its rectangle is the whole block, its payload `result` of the block's distances. -/
theorem run_eq (c : Dev nD) (i : grid0.Coords) (arg2 : Memref sig .tc .vmem S1024x75 .f32) (harg2 : arg2.IsWhole)
    (arg3 : Memref sig .tc .vmem S1x3x114x2x130 .f32) (harg3 : arg3.IsWhole)
    (arg4 : Memref sig .tc .vmem S1x3x114x2x130 .f32) (harg4 : arg4.IsWhole)
    (arg5 : Memref sig .tc .vmem S1024x1 .f32) (harg5 : arg5.IsWhole)
    (arg6 : Memref sig .tc .vmem S64x1024 .f32) (harg6 : arg6.IsWhole)
    (arg7 : Memref sig .tc .vmem S64x512 .f32) (harg7 : arg7.IsWhole)
    (x0 : Vec F S1024x75 .f32) (x1 x2 : Vec F S1x3x114x2x130 .f32) (x3 : Vec F S1024x1 .f32) (x4 : Vec F S64x1024 .f32) :
    (kernelRun0_A c i arg2 harg2 arg3 harg3 arg4 harg4 arg5 harg5 arg6 harg6 arg7 harg7 x0 x1 x2 x3 x4).1
      = [⟨Rect.unit (s := S64x512) ![0, 0] S64x512.size inb_S64x512_S64x512_0_0,
          result (dist (View.readAt (Elt F) arg2.view (Rect.unit (s := S1024x75) ![0, 0] S1024x75.size inb_S1024x75_S1024x75_0_0).toLoadRect (harg2.unread x0))
              (View.readAt (Elt F) arg5.view (Rect.unit (s := S1024x1) ![0, 0] S1024x1.size inb_S1024x1_S1024x1_0_0).toLoadRect (harg5.unread x3))
              (patches (fun e o h => if e
                then View.readAt (Elt F) arg3.view (Rect.unit (s := S1x3x114x2x130) o S1x3x1x1x128.size h).toLoadRect (harg3.unread x1)
                else View.readAt (Elt F) arg4.view (Rect.unit (s := S1x3x114x2x130) o S1x3x1x1x128.size h).toLoadRect (harg4.unread x2))
                i (fits i)))
            (View.readAt (Elt F) arg6.view (Rect.unit (s := S64x1024) ![0, 0] S64x1024.size inb_S64x1024_S64x1024_0_0).toLoadRect (harg6.unread x4))⟩] := by
  sl_kernel_rfl

end Cert.KernelIdeal.Block
-- ==== Proof.BlockValue.lean ====
/- What one grid point computes, at an index over the extended reals: the network's threshold is the eighth smallest of a
   column's 1024 distances; where the eighth and the ninth differ, the result is the sum of the values of the eight
   nearest patches, divided by eight. -/
module

public import proofs.«01_k».proof.Proof.Block
public import proofs.«01_k».proof.Proof.Select
public import Idealize.ShloMosaic.Lib.ValueIdx
public import Idealize.ShloMosaic.Lib.MatmulPlain
public import Idealize.ShloMosaic.Lib.KernelVsHost
public import Idealize.ShloMosaic.Lib.Pointwise.Reduce

@[expose] public section

set_option maxRecDepth 16384

noncomputable section

namespace Cert.KernelIdeal.Block

open Idealize.ShloMosaic hiding ix0 ix1 ix2 ix3 ix4 ix5
open Idealize.ShloMosaic.ValueIdx Cert.Net Cert.Select Cert.KernelIdeal Cert.KernelIdeal.Gen

/-! ## The threshold -/

/-- Column `j` of the distances. -/
def col (d : FVec Ideal (M 1024) .f32) (j : Fin 512) (n : Fin 1024) : EReal := d (ix2 n j)

/-- At every place of eight slabs of `h` rows and at every threshold, the wires are a run of as many `true` as the
    column has distances under the threshold in the row's residue class. -/
def Sorted (d : FVec Ideal (M 1024) .f32) (h : ℕ) (s : Oct (FVec Ideal (M h) .f32)) : Prop :=
  ∀ (j : Fin 512) (ρ : Fin h) (c : EReal),
    (s.map fun v => (v (ix2 ρ j) : EReal)).map (under c) = run (cnt (col d j) h ρ.val c)

/-- A slab's row is a row of the distances. -/
theorem slab_apply (d : FVec Ideal (M 1024) .f32) (o : ℕ) (h : (M 1024).Slices ![o, 0] (M 128)) (ρ : Fin 128)
    (j : Fin 512) (ho : o + ρ.val < 1024) : extractStridedSlice (M 128) ![o, 0] d h (ix2 ρ j) = col d j ⟨o + ρ.val, ho⟩ := by
  refine extractStridedSlice_apply _ d h _ (ix2 ⟨o + ρ.val, ho⟩ j) ?_
  intro a
  match a with
  | ⟨0, _⟩ => rfl
  | ⟨1, _⟩ => exact (Nat.zero_add _).symm

theorem sorted_slabs (d : FVec Ideal (M 1024) .f32) : Sorted d 128 ((slabs d).sort minimumf maximumf) := by
  intro j ρ c
  rw [Oct.map_sort (fun v : FVec Ideal (M 128) .f32 => (v (ix2 ρ j) : EReal)) minimumf maximumf min max
    (fun _ _ => rfl) (fun _ _ => rfl), sort_under,
    cnt_init (col d j) ρ c _ (slab_apply d 0 (by decide) ρ j _) (slab_apply d 128 (by decide) ρ j _) (slab_apply d 256 (by decide) ρ j _)
      (slab_apply d 384 (by decide) ρ j _) (slab_apply d 512 (by decide) ρ j _) (slab_apply d 640 (by decide) ρ j _) (slab_apply d 768 (by decide) ρ j _)
      (slab_apply d 896 (by decide) ρ j _)]

theorem sorted_step (d : FVec Ideal (M 1024) .f32) (h H : ℕ) (hH : H = h + h) (h0 : (M H).Slices ![0, 0] (M h))
    (h1 : (M H).Slices ![h, 0] (M h)) (s : Oct (FVec Ideal (M H) .f32)) (hs : Sorted d H s) :
    Sorted d h (step h H h0 h1 s) := by
  subst hH
  intro j ρ c
  unfold step
  rw [Oct.map_merge (fun v : FVec Ideal (M h) .f32 => (v (ix2 ρ j) : EReal)) minimumf maximumf min max
    (fun _ _ => rfl) (fun _ _ => rfl)]
  rw [cnt_halve (col d j) h ρ.val ρ.isLt c]
  have e0 : ∀ v : FVec Ideal (M (h + h)) .f32, extractStridedSlice (M h) ![0, 0] v h0 (ix2 ρ j)
      = v (ix2 ⟨ρ.val, by omega⟩ j) := fun v => extractStridedSlice_apply _ v h0 _ _ (by
    intro a
    match a with
    | ⟨0, _⟩ => exact (Nat.zero_add _).symm
    | ⟨1, _⟩ => exact (Nat.zero_add _).symm)
  have e1 : ∀ v : FVec Ideal (M (h + h)) .f32, extractStridedSlice (M h) ![h, 0] v h1 (ix2 ρ j)
      = v (ix2 ⟨h + ρ.val, by omega⟩ j) := fun v => extractStridedSlice_apply _ v h1 _ _ (by
    intro a
    match a with
    | ⟨0, _⟩ => rfl
    | ⟨1, _⟩ => exact (Nat.zero_add _).symm)
  apply merge_under
  · rw [← hs j ⟨ρ.val, by omega⟩ c]
    simp only [Oct.map, e0]
  · rw [← hs j ⟨h + ρ.val, by omega⟩ c]
    simp only [Oct.map, e1]

theorem run_w7 (p : ℕ) : (run p).w7 = decide (7 < p) := by
  unfold run; rfl

/-- The network's threshold is the eighth smallest distance of the column. -/
theorem eighth_apply (d : FVec Ideal (M 1024) .f32) (j : Fin 512) :
    eighth d (ix2 0 j) = col d j (ord (col d j) 7) := by
  apply eighth_eq
  intro c
  have hs := sorted_step d 1 2 rfl (by decide) (by decide) _ <| sorted_step d 2 4 rfl (by decide) (by decide) _ <|
    sorted_step d 4 8 rfl (by decide) (by decide) _ <| sorted_step d 8 16 rfl (by decide) (by decide) _ <|
    sorted_step d 16 32 rfl (by decide) (by decide) _ <| sorted_step d 32 64 rfl (by decide) (by decide) _ <|
    sorted_step d 64 128 rfl (by decide) (by decide) _ (sorted_slabs d)
  have h7 := congrArg Oct.w7 (hs j 0 c)
  rw [run_w7] at h7
  have h8 : decide (eighth d (ix2 0 j) ≤ c) = decide (7 < cnt (col d j) 1 0 c) := h7
  rw [decide_eq_decide, cnt_one] at h8
  exact h8

/-! ## The average -/

/-- A comparison "at most" selects the first of two values where it holds. -/
theorem select_ole (x t a b : EReal) :
    Scalar.select (FloatOps.cmpf (F := Ideal) (φ := .f32) .ole x t) a b = if x ≤ t then a else b := by
  show (if Ideal.cmp .ole x t = 1#1 then a else b) = _
  unfold Ideal.cmp
  by_cases h : x ≤ t <;> simp [h]

theorem ofBits_one : Ideal.ofBits .f32 0x3F800000#32 = 1 := by
  simp [Ideal.ofBits, Ideal.ieee, -EReal.coe_mul]; norm_num

theorem ofBits_eight : Ideal.ofBits .f32 0x41000000#32 = 8 := by
  have : Ideal.ofBits .f32 0x41000000#32 = ((8 : ℝ) : EReal) := by
    simp [Ideal.ofBits, Ideal.ieee, -EReal.coe_mul]; norm_num
  rw [this]; rfl

/-- The mask at an index: one where the distance is at most the column's eighth smallest. -/
theorem mask_apply (d : FVec Ideal S1024x512 .f32) (n : Fin 1024) (j : Fin 512) :
    mask d (eighth d) (ix2 n j) = if col d j n ≤ col d j (ord (col d j) 7) then (1 : EReal) else 0 := by
  rw [← eighth_apply d j]
  show Scalar.select (FloatOps.cmpf (F := Ideal) (φ := .f32) .ole (d (ix2 n j))
    (broadcastTo S1024x512 (eighth d) broadcasts_S1x512_S1024x512 (ix2 n j)))
    (Ideal.ofBits .f32 0x3F800000#32) (Ideal.ofBits .f32 0x00000000#32) = _
  rw [select_ole, ofBits_one, Ideal.ofBits_zero_f32,
    broadcastTo_apply (eighth d) broadcasts_S1x512_S1024x512 (ix2 n j) (ix2 0 j) (by
      intro a
      match a with
      | ⟨0, _⟩ => rfl
      | ⟨1, _⟩ => rfl)]
  rfl

/-- The average of a mask at an index. -/
theorem average_apply (k : FVec Ideal S1024x512 .f32) (v : FVec Ideal S64x1024 .f32) (u : Fin 64) (j : Fin 512) :
    average k v (ix2 u j)
      = Ideal.div (∑ n : Fin 1024, v (ix2 u n) * k (ix2 n j)) (∑ n : Fin 1024, k (ix2 n j)) := by
  have hm : matmul dot_S64x1024_S1024x512_S64x512_1_0_0_1_n_n none (shapeCast S64x1024 v shapeCasts_S64x1024_S64x1024) k
      (constant S64x512 .f32 0x00000000#32) (ix2 u j) = ∑ n : Fin 1024, v (ix2 u n) * k (ix2 n j) := by
    rw [shapeCast_self]
    refine (Ideal.matmul_plain_apply none v k _ u j).trans ?_
    show Ideal.ofBits .f32 0x00000000#32 + _ = _
    rw [Ideal.ofBits_zero_f32, zero_add]
  have hr : broadcastTo S64x512 (shapeCast S1x512
      (multiReduction .add [0] S512 k 0x00000000#32 reduces_S1024x512_S512 (.inl rfl) rfl) shapeCasts_S512_S1x512)
      broadcasts_S1x512_S64x512 (ix2 u j) = ∑ n : Fin 1024, k (ix2 n j) := by
    rw [broadcastTo_apply _ broadcasts_S1x512_S64x512 (ix2 u j) (ix2 0 j) (by
      intro a
      match a with
      | ⟨0, _⟩ => rfl
      | ⟨1, _⟩ => rfl)]
    rw [shapeCast_apply _ shapeCasts_S512_S1x512 (ix2 0 j) (ix1 j) (by
      rw [Shape.rowMajor_val_two, Shape.rowMajor_val_one]; show j.val = 0 * 512 + j.val; omega)]
    exact Ideal.reduceAdd_r2_a0 reduces_S1024x512_S512 k (ix1 j)
  show Ideal.div (matmul dot_S64x1024_S1024x512_S64x512_1_0_0_1_n_n none (shapeCast S64x1024 v shapeCasts_S64x1024_S64x1024) k
      (constant S64x512 .f32 0x00000000#32) (ix2 u j)) _ = _
  rw [hm, ← hr]

/-- Where the eighth and the ninth distance of a column differ, the result there is the sum of the values of the eight
    nearest patches divided by eight. -/
theorem result_apply (d : FVec Ideal S1024x512 .f32) (v : FVec Ideal S64x1024 .f32) (u : Fin 64) (j : Fin 512)
    (hne : col d j (ord (col d j) 7) ≠ col d j (ord (col d j) 8)) :
    result d v (ix2 u j) = Ideal.div (∑ k : Fin 8, v (ix2 u (near (col d j) k))) 8 := by
  unfold result
  rw [average_apply]
  simp only [mask_apply, mul_ite, mul_one, mul_zero]
  rw [sum_near (col d j) hne fun n => v (ix2 u n), sum_near (col d j) hne fun _ => 1]
  congr 1
  simp

end Cert.KernelIdeal.Block
-- ==== Proof.Patch.lean ====
/- The patch matrix and the distances at an index, and the contents a grid point leaves in the output block. -/
module

public import proofs.«01_k».proof.Proof.BlockValue
public import Idealize.ShloMosaic.Lib.Pipeline.ValueKit.Tiles

@[expose] public section

set_option maxRecDepth 16384

noncomputable section

namespace Cert.KernelIdeal.Block

open Idealize.ShloMosaic hiding ix0 ix1 ix2 ix3 ix4 ix5
open Idealize.ShloMosaic.ValueIdx Idealize.ShloMosaic.TcCoe Cert.KernelIdeal Cert.KernelIdeal.Gen

/-- Dropping the two unit axes of a load. -/
theorem piece_apply (v : FVec Ideal S1x3x1x1x128 .f32) (c : Fin 3) (l : Fin 128) :
    piece v (ix2 c l) = v (ix5 0 c 0 0 l) := by
  unfold piece
  rw [shapeCast_apply (s := S3x1x128) (t := S3x128) _ _ (ix2 c l) (ix3 c 0 l)
      (by rw [Shape.rowMajor_val_three, Shape.rowMajor_val_two]; show (c.val * 1 + 0) * 128 + l.val = c.val * 128 + l.val; omega),
    shapeCast_apply (s := S1x3x1x1x128) (t := S3x1x128) _ _ (ix3 c 0 l) (ix5 0 c 0 0 l)
      (by
        rw [Shape.rowMajor_val_three, Shape.rowMajor_val_five]
        show (((0 * 3 + c.val) * 1 + 0) * 1 + 0) * 128 + l.val = (c.val * 1 + 0) * 128 + l.val; omega)]

/-- Row `m` of the patch matrix is channel `m % 3` of kernel tap `m / 3`, column `j` the output position `(j / 128, j % 128)`. -/
theorem patches_apply (x1 x2 : FVec Ideal S1x3x114x2x130 .f32) (i : grid0.Coords) (m : Fin 75) (j : Fin 512)
    (hi : (i 1).val < 28) :
    patches (load x1 x2) i (fits i) (ix2 m j)
      = (if m.val / 3 % 5 % 2 == 0 then x1 else x2) (ix5 0 ⟨m.val % 3, by omega⟩
          ⟨4 * (i 1).val + j.val / 128 + m.val / 3 / 5 / 2, by omega⟩ ⟨m.val / 3 / 5 % 2, by omega⟩
          ⟨m.val / 3 % 5 / 2 + j.val % 128, by omega⟩) := by
  unfold patches
  refine (concatenate_ofFn_apply (t := S75x512) (s₁ := S3x512) 0 (fun k : Fin 25 => tap (load x1 x2) i (fits i) k) _ rfl 3 rfl
    (ix2 m j) ⟨m.val / 3, by omega⟩ rfl (ix2 ⟨m.val % 3, by omega⟩ j) rfl
    (by
      intro b hb
      match b, hb with
      | ⟨0, _⟩, hb => exact absurd rfl hb
      | ⟨1, _⟩, _ => rfl)).trans ?_
  unfold tap
  refine (concatenate_ofFn_apply (t := S3x512) (s₁ := S3x128) 1 (fun r : Fin 4 => piece (load x1 x2 _ _ _)) _ rfl 128 rfl
    (ix2 ⟨m.val % 3, by omega⟩ j) ⟨j.val / 128, by omega⟩ rfl (ix2 ⟨m.val % 3, by omega⟩ ⟨j.val % 128, by omega⟩) rfl
    (by
      intro b hb
      match b, hb with
      | ⟨0, _⟩, _ => rfl
      | ⟨1, _⟩, hb => exact absurd rfl hb)).trans ?_
  rw [piece_apply]
  unfold load
  refine congrArg _ (funext fun a => Fin.ext ?_)
  refine (Rect.idx_unit_val _ _ _ _ a).trans ((congrArg (· + _) (congrFun (tap_off_eq i ⟨m.val / 3, by omega⟩ ⟨j.val / 128, by omega⟩) a)).trans ?_)
  match a with
  | ⟨0, _⟩ => rfl
  | ⟨1, _⟩ => show 0 + m.val % 3 = m.val % 3; omega
  | ⟨2, _⟩ => rfl
  | ⟨3, _⟩ => rfl
  | ⟨4, _⟩ => rfl

/-- A distance: the products of a patch's row with a column of the patch matrix, plus the patch's bias. -/
theorem dist_apply (w : FVec Ideal S1024x75 .f32) (b : FVec Ideal S1024x1 .f32) (p : FVec Ideal S75x512 .f32)
    (n : Fin 1024) (j : Fin 512) :
    dist w b p (ix2 n j) = (∑ m : Fin 75, w (ix2 n m) * p (ix2 m j)) + b (ix2 n 0) := by
  unfold dist
  rw [shapeCast_self, shapeCast_self]
  refine (congrArg₂ (· + ·) ((Ideal.matmul_plain_apply none w p _ n j).trans ?_)
    (broadcastTo_apply b _ (ix2 n j) (ix2 n 0) ?_))
  · rw [show (constant S1024x512 .f32 0x00000000#32 : FVec Ideal _ _) (ix2 n j) = 0 from Ideal.ofBits_zero_f32, zero_add]
  · intro a
    match a with
    | ⟨0, _⟩ => rfl
    | ⟨1, _⟩ => rfl

/-- What point `t` leaves in the output block: the result of the distances of its blocks. -/
theorem outsAt_eq {F : FTy → Type} [FloatOps F] (m : (ℓ : Loc nD τ sig) → Buf (Elt F) ℓ) (c : Dev nD) (t : Fin cfg0.N) :
    outsAt0 m c t = result (dist (iblk m c 0 t) (iblk m c 3 t)
      (patches (load (iblk m c 1 t) (iblk m c 2 t)) (grid0.coords t) (fits (grid0.coords t)))) (iblk m c 4 t) := by
  have z2 : (![0, 0] : Fin 2 → ℕ) = fun _ => 0 := by funext a; fin_cases a <;> rfl
  unfold outsAt0 out0_A_5
  rw [View.read_writes_eq_canon _ _ _ (cover0_A_5 c _ _ _ _ _ _ _ _ _ _ _ _ _ _ _ _ _ _), run_eq]
  rw [View.canon_unit_zero (S := S64x512) z2]
  simp only [View.readAt_eq_ld, (hs0_0 t).read_unread, (hs0_1 t).read_unread, (hs0_2 t).read_unread, (hs0_3 t).read_unread, (hs0_4 t).read_unread]
  rw [View.ld_unit_zero (S := S1024x75) z2, View.ld_unit_zero (S := S1024x1) z2, View.ld_unit_zero (S := S64x1024) z2]
  refine congrArg (fun p => result (dist _ _ p) _) (congrArg (fun l => patches l _ _)
    (funext fun e => funext fun o => funext fun h => ?_))
  cases e <;> rfl

end Cert.KernelIdeal.Block
-- ==== Proof.Array.lean ====
/- The array the region writes, at an index: column `14336 · b + 128 · y + z` holds, for `z < 112`, the averages at
   output position `(y, z)` of image `b`, wherever the eighth and the ninth distance there differ. -/
module

public import proofs.«01_k».proof.Proof.Entry
public import proofs.«01_k».proof.Proof.Patch
public import Idealize.ShloMosaic.Lib.Pipeline.ValueKit.Geometry

@[expose] public section

set_option maxRecDepth 16384

noncomputable section

namespace Cert.KernelIdeal.Array

open Idealize.ShloMosaic hiding ix0 ix1 ix2 ix3 ix4 ix5
open Idealize.ShloMosaic.ValueIdx Idealize.ShloMosaic.TcCoe Cert.KernelIdeal Cert.KernelIdeal.Gen Cert.KernelIdeal.Block
open Cert.KernelIdeal.Entry Cert.Spec Cert.Select

variable (m : (ℓ : Loc nD τ sig) → Buf (Elt Ideal) ℓ) (c : Dev nD)

/-! ## Where the blocks lie -/

theorem coords_one : ∀ t : Fin cfg0.N, (grid0.coords t 1).val = t.val % 28 := by decide +kernel
theorem index_0 : ∀ t : Fin cfg0.N, win0_0.index t = ![0, 0] := by decide +kernel
theorem index_1 : ∀ t : Fin cfg0.N, win0_1.index t = ![t.val / 28, 0, 0, 0, 0] := by decide +kernel
theorem index_2 : ∀ t : Fin cfg0.N, win0_2.index t = ![t.val / 28, 0, 0, 0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, t.val] := by decide +kernel

theorem lt_N (t : Fin cfg0.N) : t.val < 112 := t.isLt

theorem iblk_0 (t : Fin cfg0.N) (n : Fin 1024) (j : Fin 75) : iblk m c 0 t (ix2 n j) = V m c main_v10 (ix2 n j) := by
  unfold iblk
  refine congrArg (V m c main_v10) ?_
  blk_ext [index_0]

theorem iblk_1 (t : Fin cfg0.N) (k : Fin 3) (Y : Fin 114) (q : Fin 2) (X : Fin 130) :
    iblk m c 1 t (ix5 0 k Y q X) = V m c main_v4 (ix5 ⟨t.val / 28, by have := lt_N t; omega⟩ k Y q X) := by
  unfold iblk
  refine congrArg (V m c main_v4) ?_
  blk_ext [index_1]

theorem iblk_2 (t : Fin cfg0.N) (k : Fin 3) (Y : Fin 114) (q : Fin 2) (X : Fin 130) :
    iblk m c 2 t (ix5 0 k Y q X) = V m c main_v7 (ix5 ⟨t.val / 28, by have := lt_N t; omega⟩ k Y q X) := by
  unfold iblk
  refine congrArg (V m c main_v7) ?_
  blk_ext [index_2]

theorem iblk_3 (t : Fin cfg0.N) (n : Fin 1024) : iblk m c 3 t (ix2 n 0) = V m c main_v11 (ix2 n 0) := by
  unfold iblk
  refine congrArg (V m c main_v11) ?_
  blk_ext [index_3]

theorem iblk_4 (t : Fin cfg0.N) (u : Fin 64) (n : Fin 1024) : iblk m c 4 t (ix2 u n) = V m c main_v12 (ix2 u n) := by
  unfold iblk
  refine congrArg (V m c main_v12) ?_
  blk_ext [index_4]

/-! ## One point -/

/-- The distances at an output position, of the arguments in memory. -/
def dst (b : Fin 4) (y z : Fin 112) : Fin 1024 → EReal :=
  distance (m ((c : Thread nD τ).loc main_arg0)) (m ((c : Thread nD τ).loc main_arg1)) (m ((c : Thread nD τ).loc main_arg2)) b y z

/-- The distances of a point's column are those of its output position. -/
theorem dist_point (t : Fin cfg0.N) (j : Fin 512) (hz : j.val % 128 < 112) (n : Fin 1024) :
    dist (F := Ideal) (iblk m c 0 t) (iblk m c 3 t)
        (patches (load (iblk m c 1 t) (iblk m c 2 t)) (grid0.coords t) (fits (grid0.coords t))) (ix2 n j)
      = dst m c ⟨t.val / 28, by have := lt_N t; omega⟩ ⟨4 * (t.val % 28) + j.val / 128, by omega⟩ ⟨j.val % 128, hz⟩ n := by
  have ht := lt_N t
  have h1 := coords_one t
  rw [dist_apply]
  unfold dst distance
  refine congrArg₂ (· + ·) (Finset.sum_congr rfl fun k _ => ?_) ((iblk_3 m c t n).trans (V_bias m c n))
  rw [patches_apply _ _ _ _ _ (by omega)]
  refine congrArg₂ (· * ·) ((iblk_0 m c t n k).trans ((congrFun (V_weights m c) _).trans (weights_apply _ n k))) ?_
  by_cases e : (k.val / 3 % 5 % 2 == 0) = true
  · rw [if_pos e]
    refine (iblk_1 m c t _ _ _ _).trans ((congrFun (V_even m c) _).trans ((half_apply _ 0 _ _ _ _ _ _ (by omega)).trans ?_))
    have e' := of_decide_eq_true e
    refine congrArg₂ (pixel _ _ _) ?_ ?_
    · show 2 * (4 * (grid0.coords t 1).val + j.val / 128 + k.val / 3 / 5 / 2) + k.val / 3 / 5 % 2
        = 2 * (4 * (t.val % 28) + j.val / 128) + k.val / 3 / 5
      omega
    · show 2 * (k.val / 3 % 5 / 2 + j.val % 128) + 0 = 2 * (j.val % 128) + k.val / 3 % 5
      omega
  · rw [if_neg e]
    refine (iblk_2 m c t _ _ _ _).trans ((congrFun (V_odd m c) _).trans ((half_apply _ 1 _ _ _ _ _ _ (by omega)).trans ?_))
    have e' : ¬ k.val / 3 % 5 % 2 = 0 := fun h => e (decide_eq_true h)
    refine congrArg₂ (pixel _ _ _) ?_ ?_
    · show 2 * (4 * (grid0.coords t 1).val + j.val / 128 + k.val / 3 / 5 / 2) + k.val / 3 / 5 % 2
        = 2 * (4 * (t.val % 28) + j.val / 128) + k.val / 3 / 5
      omega
    · show 2 * (k.val / 3 % 5 / 2 + j.val % 128) + 1 = 2 * (j.val % 128) + k.val / 3 % 5
      omega

/-- What a point leaves at an untied column. -/
theorem outs_point (t : Fin cfg0.N) (u : Fin 64) (j : Fin 512) (hz : j.val % 128 < 112)
    (hu : Untied (dst m c ⟨t.val / 28, by have := lt_N t; omega⟩ ⟨4 * (t.val % 28) + j.val / 128, by omega⟩ ⟨j.val % 128, hz⟩)) :
    outsAt0 m c t (ix2 u j) = average (dst m c ⟨t.val / 28, by have := lt_N t; omega⟩
      ⟨4 * (t.val % 28) + j.val / 128, by omega⟩ ⟨j.val % 128, hz⟩) (m ((c : Thread nD τ).loc main_arg3)) u := by
  have e : col (dist (F := Ideal) (iblk m c 0 t) (iblk m c 3 t)
      (patches (load (iblk m c 1 t) (iblk m c 2 t)) (grid0.coords t) (fits (grid0.coords t)))) j = _ :=
    funext fun n => dist_point m c t j hz n
  rw [outsAt_eq, result_apply _ _ _ _ (by rw [e]; exact hu), e]
  unfold Spec.average
  refine congrArg (Ideal.div · 8) (Finset.sum_congr rfl fun k _ => ?_)
  exact (iblk_4 m c t u _).trans (V_values m c u _)

/-- The same, at the output position named by the column's place in the array. -/
theorem at_point (t : Fin cfg0.N) (u : Fin 64) (j : Fin 512) (p : S64x512.Idx) (hp : p = ix2 u j) (b : Fin 4) (y z : Fin 112)
    (u' : Fin 64) (hu' : u' = u) (h : 512 * t.val + j.val = 14336 * b.val + 128 * y.val + z.val) (hu : Untied (dst m c b y z)) :
    outsAt0 m c t p = average (dst m c b y z) (m ((c : Thread nD τ).loc main_arg3)) u' := by
  have ht := lt_N t
  have hz : j.val % 128 < 112 := by omega
  have e : dst m c ⟨t.val / 28, by omega⟩ ⟨4 * (t.val % 28) + j.val / 128, by omega⟩ ⟨j.val % 128, hz⟩ = dst m c b y z := by
    rw [show (⟨t.val / 28, by omega⟩ : Fin 4) = b from Fin.ext (by show t.val / 28 = b.val; omega),
      show (⟨4 * (t.val % 28) + j.val / 128, by omega⟩ : Fin 112) = y from
        Fin.ext (by show 4 * (t.val % 28) + j.val / 128 = y.val; omega),
      show (⟨j.val % 128, hz⟩ : Fin 112) = z from Fin.ext (by show j.val % 128 = z.val; omega)]
  subst hp hu'
  rw [← e] at hu ⊢
  exact outs_point m c t _ j hz hu

/-! ## The array -/

/-- The array after the run, at an untied column. -/
theorem arr_apply (b : Fin 4) (y z : Fin 112) (u : Fin 64) (hu : Untied (dst m c b y z)) :
    (dats m 0 c).arrAt 5 cfg0.N (ix2 u ⟨14336 * b.val + 128 * y.val + z.val, by omega⟩)
      = average (dst m c b y z) (m ((c : Thread nD τ).loc main_arg3)) u := by
  have key := (dats m 0 c).arrAt_forall_of_covers 5
    (fun (i : S64x57344.Idx) (v : EReal) => ∀ (b : Fin 4) (y z : Fin 112), (i 1).val = 14336 * b.val + 128 * y.val + z.val →
      Untied (dst m c b y z) → v = average (dst m c b y z) (m ((c : Thread nD τ).loc main_arg3)) (i 0))
    (by decide +kernel) (fun t hf y => ?_) (ix2 u ⟨14336 * b.val + 128 * y.val + z.val, by omega⟩)
  · exact key b y z rfl hu
  · show ∀ (b : Fin 4) (y' z : Fin 112), _ → _ → (dats m 0 c).after 5 t y = _
    rw [after0_5]
    intro b y' z hi hu
    have e0 : ((((cfg0.win 5).blk t).view.emb y) (0 : Fin 2)).val = (y (0 : Fin 2)).val := by blk_simp [index_5]
    have e1 : ((((cfg0.win 5).blk t).view.emb y) (1 : Fin 2)).val = 512 * t.val + (y (1 : Fin 2)).val := by
      blk_simp [index_5]
      omega
    exact at_point m c t (y 0) (y 1) y (by funext a; match a with | ⟨0, _⟩ => rfl | ⟨1, _⟩ => rfl) b y' z _
      (Fin.ext e0) (e1.symm.trans hi) hu

end Cert.KernelIdeal.Array
-- ==== Proof.Tail.lean ====
/- The kernel's result: the array the region writes, cut to the 112 columns of the output and with the axes of the images
   and of the values exchanged. -/
module

public import proofs.«01_k».proof.Proof.Array

@[expose] public section

set_option maxRecDepth 16384

noncomputable section

namespace Cert.KernelIdeal.Tail

open Idealize.ShloMosaic hiding ix0 ix1 ix2 ix3 ix4 ix5
open Idealize.ShloMosaic.ValueIdx Idealize.ShloMosaic.TcCoe Idealize.SL.Sem
open Cert.KernelIdeal Cert.KernelIdeal.Gen Cert.KernelIdeal.Array Cert.Spec

/-- The host operations after the region. -/
def cut (v : FVec Ideal S64x57344 .f32) : FVec Ideal S4x64x112x112 .f32 :=
  transpose S4x64x112x112 [1, 0, 2, 3] (extractStridedSlice S64x4x112x112 ![0, 0, 0, 0]
    (shapeCast S64x4x112x128 v shapeCasts_S64x57344_S64x4x112x128) slices_S64x4x112x128_S64x4x112x112_0_0_0_0)
    transposes_S64x4x112x112_S4x64x112x112_1_0_2_3

/-- The result's element is the array's at column `14336 · b + 128 · y + z`. -/
theorem cut_apply (v : FVec Ideal S64x57344 .f32) (b : Fin 4) (u : Fin 64) (y z : Fin 112) :
    cut v (ix4 b u y z) = v (ix2 u ⟨14336 * b.val + 128 * y.val + z.val, by omega⟩) := by
  unfold cut
  rw [transpose_apply _ _ _ (ix4 b u y z) (ix4 u b y z)
      (by
        intro a
        match a with
        | ⟨0, _⟩ => rfl
        | ⟨1, _⟩ => rfl
        | ⟨2, _⟩ => rfl
        | ⟨3, _⟩ => rfl),
    extractStridedSlice_apply _ _ _ (ix4 u b y z) (ix4 u b y ⟨z.val, by omega⟩)
      (by
        intro a
        match a with
        | ⟨0, _⟩ => show u.val = 0 + u.val; omega
        | ⟨1, _⟩ => show b.val = 0 + b.val; omega
        | ⟨2, _⟩ => show y.val = 0 + y.val; omega
        | ⟨3, _⟩ => show z.val = 0 + z.val; omega),
    shapeCast_apply (s := S64x57344) (t := S64x4x112x128) _ _ (ix4 u b y ⟨z.val, by omega⟩)
      (ix2 u ⟨14336 * b.val + 128 * y.val + z.val, by omega⟩)
      (by
        rw [Shape.rowMajor_val_two, Shape.rowMajor_val_four]
        show u.val * 57344 + (14336 * b.val + 128 * y.val + z.val) = ((u.val * 4 + b.val) * 112 + y.val) * 128 + z.val
        omega)]

variable (m : (ℓ : Loc nD τ sig) → Buf (Elt Ideal) ℓ) (ρ : Dev nD → PrngReg)

/-- The result buffer after the host operations that follow the region. -/
theorem result_eq (c : Dev nD) :
    Pipeline.afterTail₀ cfgs (dats m) 0 (V0 m) [hostOps1] c main_v16 = cut ((dats m 0 c).arrAt 5 cfg0.N) := by
  unfold Pipeline.afterTail₀
  simp only [hostOps1, List.flatten_cons, List.flatten_nil, List.append_nil]
  after_results
  exact congrArg cut (Pipeline.withArrays_arr spec0 (by decide) c (V0 m c) (fun w => (dats m 0 c).arrAt w cfg0.N) 5)

/-- After every run the result holds the averages wherever the eighth and the ninth distance differ, and the arguments
    are as they were. -/
theorem run : θ_run defs (onTc (τ := τ) (main (F := Ideal))) ⟨m, fun _ => 0, ρ⟩ (fun r => ∀ c : Dev nD,
    (∀ (b : Fin 4) (u : Fin 64) (y z : Fin 112), Untied (dst m c b y z) →
      r.2.mem ((c.tc : Thread nD τ).loc main_v16) (ix4 b u y z)
        = average (dst m c b y z) (m ((c : Thread nD τ).loc main_arg3)) u)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono ?_ (θ_run_and (run_main m ρ) (unchanged m ρ))
  rintro r ⟨h, hu⟩ c
  refine ⟨fun b u y z hd => ?_, hu c⟩
  have e : r.2.mem ((c.tc : Thread nD τ).loc main_v16) = cut ((dats m 0 c).arrAt 5 cfg0.N) :=
    ((h c).2 main_v16 (by decide)).trans (result_eq m c)
  rw [e, cut_apply]
  exact arr_apply m c b y z u hd

end Cert.KernelIdeal.Tail
-- ==== Proof.RefIndex.lean ====
/- The reference's host operations that index: the rows and columns a patch takes, the two gathers that take them from the
   padded image, the contraction of a patch with the weights, and the gather of the values' rows. -/
module

public import proofs.«01_k».proof.Proof.Spec
public import proofs.«01_k».proof.Proof.Gen.ReferenceIdeal.Read
public import Idealize.ShloMosaic.Lib.ValueIdxRank6

@[expose] public section

set_option maxRecDepth 16384

noncomputable section

namespace Cert.ReferenceIdeal.Index

open Idealize.ShloMosaic hiding ix0 ix1 ix2 ix3 ix4 ix5 ix6
open Idealize.ShloMosaic.ValueIdx Cert.ReferenceIdeal Cert.ReferenceIdeal.Gen Cert.ReferenceIdeal.Read Cert.Spec

/-! ## Small integers -/

/-- A small natural number's word is not negative. -/
theorem slt_zero (n : ℕ) (h : n < 2147483648) : IntOp.cmpi .slt (BitVec.ofNat 32 n) 0#32 = 0#1 := by
  have : (BitVec.ofNat 32 n).slt 0#32 = false := by
    rw [BitVec.slt_eq_decide, decide_eq_false_iff_not, BitVec.toInt_eq_toNat_cond, BitVec.toNat_ofNat]
    simp only [BitVec.toInt_zero]
    split <;> omega
  show BitVec.ofBool _ = _
  rw [this]
  rfl

/-- Read signed, it is the number. -/
theorem toNat_ofNat (n : ℕ) (h : n < 2147483648) : (BitVec.ofNat 32 n).toInt.toNat = n := by
  rw [BitVec.toInt_eq_toNat_cond, BitVec.toNat_ofNat]
  split <;> omega

/-! ## The index arrays -/

/-- Entry `(k, y)` of the index array is `2 · y + k`. -/
theorem v5_apply (k : Fin 5) (y : Fin 112) : val_main_v5 (F := Ideal) (ix2 k y) = BitVec.ofNat 32 (2 * y.val + k.val) := by
  show 2#32 * BitVec.ofNat 32 y.val + BitVec.ofNat 32 k.val = _
  apply BitVec.eq_of_toNat_eq
  simp only [BitVec.toNat_add, BitVec.toNat_mul, BitVec.toNat_ofNat]
  omega

/-- No entry is negative, so the rows' start indices are the entries. -/
theorem v11_apply (k : Fin 5) (y : Fin 112) :
    val_main_v11 (F := Ideal) (ix3 k y 0) = BitVec.ofNat 32 (2 * y.val + k.val) := by
  rw [val_main_v11_apply, show idx_main_v11 (ix3 k y 0) = ix2 k y from by funext a; match a with | ⟨0, _⟩ => rfl | ⟨1, _⟩ => rfl,
    val_main_v10_apply, val_main_v7_apply, v5_apply]
  rw [show val_main_v6 (F := Ideal) (ix2 k y) = 0#32 from rfl, slt_zero _ (by omega)]
  rfl

/-- The columns' start indices are the same. -/
theorem v18_apply (k : Fin 5) (y : Fin 112) :
    val_main_v18 (F := Ideal) (ix3 k y 0) = BitVec.ofNat 32 (2 * y.val + k.val) := v11_apply k y

/-! ## The gathers -/

/-- A gather at an index whose operand index is known. -/
theorem gather_at {s si t : Shape} {w : ℕ} {α : Type} (d : GatherDims s si t) (x : s.Idx → α) (idx : IVec si w) (j : t.Idx)
    (k : s.Idx) (hk : ∀ a, d.start j idx a + d.batchCoord j a + d.offCoord j a = (k a).val) : Host.gather d x idx j = x k :=
  congrArg x (funext fun a => Fin.ext (hk a))

/-- The padded image. -/
theorem v0_apply (x : FVec Ideal Images .f32) (b : Fin 4) (k : Fin 3) (Y X : Fin 228) :
    val_main_v0 (F := Ideal) x (ix4 b k Y X) = pixel x b k Y.val X.val := by
  unfold val_main_v0 pixel
  split
  · rename_i h
    refine pad_apply_of_inside _ _ _ _ _ _ _ _ (ix4 b k ⟨Y.val - 2, by omega⟩ ⟨X.val - 2, by omega⟩) ?_
    intro a
    match a with
    | ⟨0, _⟩ => show b.val = 0 + b.val * (0 + 1); omega
    | ⟨1, _⟩ => show k.val = 0 + k.val * (0 + 1); omega
    | ⟨2, _⟩ => show Y.val = 2 + (Y.val - 2) * (0 + 1); omega
    | ⟨3, _⟩ => show X.val = 2 + (X.val - 2) * (0 + 1); omega
  · rename_i h
    have hz (i : S_.Idx) : val_main_cst (F := Ideal) i = 0 := Ideal.ofBits_zero_f32
    by_cases hY : 2 ≤ Y.val ∧ Y.val < 226
    · refine (pad_apply_of_not_inside _ _ _ _ _ _ _ _ (3 : Fin 4) ?_).trans (hz _)
      show ¬ (2 ≤ X.val ∧ (X.val - 2) % (0 + 1) = 0 ∧ (X.val - 2) / (0 + 1) < 224)
      omega
    · refine (pad_apply_of_not_inside _ _ _ _ _ _ _ _ (2 : Fin 4) ?_).trans (hz _)
      show ¬ (2 ≤ Y.val ∧ (Y.val - 2) % (0 + 1) = 0 ∧ (Y.val - 2) / (0 + 1) < 224)
      omega

/-- The first gather takes rows. -/
theorem v12_apply (x : FVec Ideal Images .f32) (b : Fin 4) (c : Fin 3) (k : Fin 5) (y : Fin 112) (X : Fin 228) :
    val_main_v12 (F := Ideal) x (ix5 b c k y X) = pixel x b c (2 * y.val + k.val) X.val := by
  unfold val_main_v12
  rw [gather_at _ _ _ (ix5 b c k y X) (ix4 b c ⟨2 * y.val + k.val, by omega⟩ X)
    (by
      intro a
      match a with
      | ⟨0, _⟩ => exact Nat.zero_add _
      | ⟨1, _⟩ => exact Nat.zero_add _
      | ⟨2, _⟩ =>
        show min (val_main_v11 (F := Ideal) _).toInt.toNat (228 - 1) + 0 + 0 = 2 * y.val + k.val
        have e := v11_apply k y
        refine (congrArg (fun v : BitVec 32 => min v.toInt.toNat (228 - 1) + 0 + 0)
          ((congrArg (val_main_v11 (F := Ideal)) ?_).trans e)).trans ?_
        · funext b
          match b with
          | ⟨0, _⟩ => rfl
          | ⟨1, _⟩ => rfl
          | ⟨2, _⟩ => rfl
        · show min (BitVec.ofNat 32 (2 * y.val + k.val)).toInt.toNat (228 - 1) + 0 + 0 = _
          rw [toNat_ofNat _ (by omega)]
          omega
      | ⟨3, _⟩ => exact Nat.zero_add _), v0_apply]

/-- The second gather takes columns. -/
theorem v19_apply (x : FVec Ideal Images .f32) (b : Fin 4) (c : Fin 3) (k : Fin 5) (y : Fin 112) (l : Fin 5) (z : Fin 112) :
    val_main_v19 (F := Ideal) x (ix6 b c k y l z) = pixel x b c (2 * y.val + k.val) (2 * z.val + l.val) := by
  unfold val_main_v19
  rw [gather_at _ _ _ (ix6 b c k y l z) (ix5 b c k y ⟨2 * z.val + l.val, by omega⟩)
    (by
      intro a
      match a with
      | ⟨0, _⟩ => exact Nat.zero_add _
      | ⟨1, _⟩ => exact Nat.zero_add _
      | ⟨2, _⟩ => exact Nat.zero_add _
      | ⟨3, _⟩ => exact Nat.zero_add _
      | ⟨4, _⟩ =>
        show min (val_main_v18 (F := Ideal) _).toInt.toNat (228 - 1) + 0 + 0 = 2 * z.val + l.val
        have e := v18_apply l z
        refine (congrArg (fun v : BitVec 32 => min v.toInt.toNat (228 - 1) + 0 + 0)
          ((congrArg (val_main_v18 (F := Ideal)) ?_).trans e)).trans ?_
        · funext b
          match b with
          | ⟨0, _⟩ => rfl
          | ⟨1, _⟩ => rfl
          | ⟨2, _⟩ => rfl
        · show min (BitVec.ofNat 32 (2 * z.val + l.val)).toInt.toNat (228 - 1) + 0 + 0 = _
          rw [toNat_ofNat _ (by omega)]
          omega), v12_apply]

/-! ## The contraction -/

/-- The contraction's dimension numbers. -/
abbrev dims := dot_S4x3x5x112x5x112_S1024x3x5x5_S4x112x112x1024_124_123_035_0_n_n

theorem sizes (p : Fin dims.contr.rank) : (![3, 5, 5] : Fin 3 → ℕ) p = dims.contr.size p := by
  match p with
  | ⟨0, _⟩ => rfl
  | ⟨1, _⟩ => rfl
  | ⟨2, _⟩ => rfl

/-- The contraction index of a patch's entry. -/
def entry (m : Fin 75) : dims.contr.Idx := fun p => ((ix3 (chan m) (row m) (column m) : (⟨3, ![3, 5, 5]⟩ : Shape).Idx) p).cast (sizes p)

/-- The contraction indices are the entries of a patch. -/
def entries : Fin 75 ≃ dims.contr.Idx where
  toFun := entry
  invFun kk := ⟨3 * (5 * (kk (1 : Fin 3)).val + (kk (2 : Fin 3)).val) + (kk (0 : Fin 3)).val, by
    have h0 : (kk (0 : Fin 3)).val < 3 := (kk (0 : Fin 3)).isLt
    have h1 : (kk (1 : Fin 3)).val < 5 := (kk (1 : Fin 3)).isLt
    have h2 : (kk (2 : Fin 3)).val < 5 := (kk (2 : Fin 3)).isLt
    omega⟩
  left_inv m := by
    apply Fin.ext
    show 3 * (5 * (m.val / 3 / 5) + m.val / 3 % 5) + m.val % 3 = m.val
    omega
  right_inv kk := by
    have h0 : (kk (0 : Fin 3)).val < 3 := (kk (0 : Fin 3)).isLt
    have h1 : (kk (1 : Fin 3)).val < 5 := (kk (1 : Fin 3)).isLt
    have h2 : (kk (2 : Fin 3)).val < 5 := (kk (2 : Fin 3)).isLt
    funext p
    apply Fin.ext
    match p with
    | ⟨0, _⟩ =>
      show (3 * (5 * (kk (1 : Fin 3)).val + (kk (2 : Fin 3)).val) + (kk (0 : Fin 3)).val) % 3 = (kk (0 : Fin 3)).val
      omega
    | ⟨1, _⟩ =>
      show (3 * (5 * (kk (1 : Fin 3)).val + (kk (2 : Fin 3)).val) + (kk (0 : Fin 3)).val) / 3 / 5 = (kk (1 : Fin 3)).val
      omega
    | ⟨2, _⟩ =>
      show (3 * (5 * (kk (1 : Fin 3)).val + (kk (2 : Fin 3)).val) + (kk (0 : Fin 3)).val) / 3 % 5 = (kk (2 : Fin 3)).val
      omega

theorem lhsIdx_entry (b : Fin 4) (y z : Fin 112) (n : Fin 1024) (m : Fin 75) :
    dims.lhsIdx (ix4 b y z n) (entry m) = ix6 b (chan m) (row m) y (column m) z := by
  funext a
  match a with
  | ⟨0, _⟩ => rfl
  | ⟨1, _⟩ => rfl
  | ⟨2, _⟩ => rfl
  | ⟨3, _⟩ => rfl
  | ⟨4, _⟩ => rfl
  | ⟨5, _⟩ => rfl

theorem rhsIdx_entry (b : Fin 4) (y z : Fin 112) (n : Fin 1024) (m : Fin 75) :
    dims.rhsIdx (ix4 b y z n) (entry m) = ix4 n (chan m) (row m) (column m) := by
  funext a
  match a with
  | ⟨0, _⟩ => rfl
  | ⟨1, _⟩ => rfl
  | ⟨2, _⟩ => rfl
  | ⟨3, _⟩ => rfl

/-- The contraction with the biases added is the distance. -/
theorem v23_apply (x : FVec Ideal Images .f32) (w : FVec Ideal Patches .f32) (a : FVec Ideal Biases .f32)
    (b : Fin 4) (y z : Fin 112) (n : Fin 1024) :
    val_main_v23 (F := Ideal) x w a (ix4 b y z n) = distance x w a b y z n := by
  rw [val_main_v23_apply]
  refine congrArg₂ (fun p q : EReal => p + q) ?_ ?_
  · unfold val_main_v20
    refine (Ideal.dotGeneral_apply _ _ _ _ _ _).trans ?_
    rw [← Equiv.sum_comp entries]
    refine Finset.sum_congr rfl fun m _ => ?_
    show val_main_v19 (F := Ideal) x (dims.lhsIdx _ (entry m)) * w (dims.rhsIdx _ (entry m)) = _
    rw [lhsIdx_entry, rhsIdx_entry, v19_apply, mul_comm]
  · rw [val_main_v22_apply, val_main_v21_apply]
    congr 1
    funext i
    match i with
    | ⟨0, _⟩ => rfl

end Cert.ReferenceIdeal.Index
-- ==== Proof.RefValue.lean ====
/- The reference's result at an index: the average of the values of the eight nearest patches. And where the mask holds:
   the eighth and the ninth distance differ. -/
module

public import proofs.«01_k».proof.Proof.RefIndex
public import proofs.«01_k».proof.Proof.BlockValue
public import proofs.«01_k».proof.Proof.Gen.On_untied

@[expose] public section

set_option maxRecDepth 16384

noncomputable section

namespace Cert.ReferenceIdeal.Result

open Idealize.ShloMosaic hiding ix0 ix1 ix2 ix3 ix4 ix5 ix6
open Idealize.ShloMosaic.ValueIdx Cert.ReferenceIdeal Cert.ReferenceIdeal.Gen Cert.ReferenceIdeal.Read Cert.ReferenceIdeal.Index
open Cert.Spec Cert.Select

variable (x : FVec Ideal Images .f32) (w : FVec Ideal Patches .f32) (a : FVec Ideal Biases .f32) (v : FVec Ideal Values .f32)

/-- The selection sorts the negated distances. -/
theorem v24_apply (i : S4x112x112x1024.Idx) :
    val_main_v24 (F := Ideal) x w a i = -(val_main_v23 (F := Ideal) x w a i) := rfl

/-- The distances of a position. -/
theorem fiber (b : Fin 4) (y z : Fin 112) :
    (fun n => val_main_v23 (F := Ideal) x w a (ix4 b y z n)) = distance x w a b y z :=
  funext fun n => v23_apply x w a b y z n

/-- The chosen patches. -/
theorem indices_apply (b : Fin 4) (y z : Fin 112) (k : Fin 8) :
    val_main_indices (F := Ideal) x w a (ix4 b y z k) = BitVec.ofNat 32 (near (distance x w a b y z) k).val := by
  rw [← fiber]
  exact topK_snd (by decide) _ _ _ (v24_apply x w a) b y z k

/-- No chosen patch is negative, so the gather's start indices are the chosen patches. -/
theorem v30_apply (b : Fin 4) (y z : Fin 112) (k : Fin 8) :
    val_main_v30 (F := Ideal) x w a (ix5 b y z k 0) = BitVec.ofNat 32 (near (distance x w a b y z) k).val := by
  rw [val_main_v30_apply, show idx_main_v30 (ix5 b y z k 0) = ix4 b y z k from by
      funext a; match a with | ⟨0, _⟩ => rfl | ⟨1, _⟩ => rfl | ⟨2, _⟩ => rfl | ⟨3, _⟩ => rfl,
    val_main_v29_apply, val_main_v26_apply, indices_apply,
    show val_main_v25 (F := Ideal) (ix4 b y z k) = 0#32 from rfl, slt_zero _ (by omega)]
  rfl

/-- The values of a chosen patch. -/
theorem v31_apply (b : Fin 4) (y z : Fin 112) (k : Fin 8) (u : Fin 64) :
    val_main_v31 (F := Ideal) x w a v (ix5 b y z k u) = v (ix2 (near (distance x w a b y z) k) u) := by
  unfold val_main_v31
  refine gather_at _ _ _ _ _ ?_
  intro i
  match i with
  | ⟨0, _⟩ =>
    show min (val_main_v30 (F := Ideal) x w a _).toInt.toNat (1024 - 1) + 0 + 0 = (near (distance x w a b y z) k).val
    refine (congrArg (fun v : BitVec 32 => min v.toInt.toNat (1024 - 1) + 0 + 0)
      ((congrArg (val_main_v30 (F := Ideal) x w a) ?_).trans (v30_apply x w a b y z k))).trans ?_
    · funext b
      match b with
      | ⟨0, _⟩ => rfl
      | ⟨1, _⟩ => rfl
      | ⟨2, _⟩ => rfl
      | ⟨3, _⟩ => rfl
      | ⟨4, _⟩ => rfl
    · show min (BitVec.ofNat 32 (near (distance x w a b y z) k).val).toInt.toNat (1024 - 1) + 0 + 0 = _
      rw [toNat_ofNat _ (by omega)]
      omega
  | ⟨1, _⟩ => exact Nat.zero_add _

/-- The result. -/
theorem result_apply (b : Fin 4) (u : Fin 64) (y z : Fin 112) :
    val_main_v35 (F := Ideal) x w a v (ix4 b u y z) = average (distance x w a b y z) v u := by
  rw [val_main_v35_apply, show idx_main_v35 (ix4 b u y z) = ix4 b y z u from by
      funext a; match a with | ⟨0, _⟩ => rfl | ⟨1, _⟩ => rfl | ⟨2, _⟩ => rfl | ⟨3, _⟩ => rfl,
    val_main_v34_apply, val_main_v32_apply]
  unfold average
  refine congrArg₂ Ideal.div ?_ Cert.KernelIdeal.Block.ofBits_eight
  refine (congrArg (fun p : EReal => p + _) Ideal.ofBits_zero_f32).trans ((zero_add _).trans ?_)
  refine Finset.sum_congr rfl fun k _ => ?_
  refine (congrArg (val_main_v31 (F := Ideal) x w a v) ?_).trans (v31_apply x w a v b y z k u)
  funext a
  match a with
  | ⟨0, _⟩ => rfl
  | ⟨1, _⟩ => rfl
  | ⟨2, _⟩ => rfl
  | ⟨3, _⟩ => rfl
  | ⟨4, _⟩ => rfl

/-! ## The mask -/

/-- Place `r` of the nine smallest of every position, as the mask cuts it out. -/
def place (r : ℕ) (h : Cert.On_untied.S4x112x112x9.Slices ![0, 0, 0, r] Cert.On_untied.S4x112x112x1) :
    FVec Ideal Cert.On_untied.S4x112x112 .f32 :=
  shapeCast Cert.On_untied.S4x112x112 (extractStridedSlice Cert.On_untied.S4x112x112x1 ![0, 0, 0, r]
    (Host.topK Cert.On_untied.S4x112x112x9 3 (FloatOps.cmpfTotal (F := Ideal) (φ := .f32) .gt) (val_main_v24 (F := Ideal) x w a)
      Cert.On_untied.Facts.sliceFits_S4x112x112x1024_S4x112x112x9).1 h)
    Cert.On_untied.Facts.shapeCasts_S4x112x112x1_S4x112x112

/-- It is the negated distance of the patch in that place. -/
theorem place_apply (r : ℕ) (hr : r < 9) (h) (b : Fin 4) (y z : Fin 112) :
    place x w a r h (ix3 b y z)
      = -(distance x w a b y z (ord (distance x w a b y z) ⟨r, by omega⟩)) := by
  unfold place
  rw [shapeCast_apply (s := Cert.On_untied.S4x112x112x1) (t := Cert.On_untied.S4x112x112) _ _ (ix3 b y z) (ix4 b y z 0)
      (by
        rw [Shape.rowMajor_val_four, Shape.rowMajor_val_three]
        show ((b.val * 112 + y.val) * 112 + z.val) * 1 + 0 = (b.val * 112 + y.val) * 112 + z.val
        omega),
    extractStridedSlice_apply _ _ _ (ix4 b y z 0) (ix4 b y z ⟨r, hr⟩)
      (by
        intro a
        match a with
        | ⟨0, _⟩ => show b.val = 0 + b.val; omega
        | ⟨1, _⟩ => show y.val = 0 + y.val; omega
        | ⟨2, _⟩ => show z.val = 0 + z.val; omega
        | ⟨3, _⟩ => rfl)]
  refine (topK_fst (by decide) _ _ _ (v24_apply x w a) b y z ⟨r, hr⟩).trans ?_
  rw [fiber, v23_apply]

/-- The mask compares the eighth and the ninth place. -/
theorem mask_eq : Cert.On_untied.fn (F := Ideal) x w a v
    = broadcastInDim Cert.On_untied.S4x64x112x112 ![0, 1, 2, 3] Cert.On_untied.Facts.bcast_S4x1x112x112_S4x64x112x112_0_1_2_3
        (broadcastInDim Cert.On_untied.S4x1x112x112 ![0, 2, 3] Cert.On_untied.Facts.bcast_S4x112x112_S4x1x112x112_0_2_3
          (cmpf .une (place x w a 7 Cert.On_untied.Facts.slices_S4x112x112x9_S4x112x112x1_0_0_0_7)
            (place x w a 8 Cert.On_untied.Facts.slices_S4x112x112x9_S4x112x112x1_0_0_0_8))) := by
  rfl

/-- Where the mask holds the two distances differ. -/
theorem untied_of_mask (b : Fin 4) (u : Fin 64) (y z : Fin 112)
    (h : Cert.On_untied.fn (F := Ideal) x w a v (ix4 b u y z) = 1#1) : Untied (distance x w a b y z) := by
  rw [mask_eq, broadcastInDim_apply _ _ _ (ix4 b u y z) (ix4 b 0 y z : Cert.On_untied.S4x1x112x112.Idx) (by
      intro a; match a with | ⟨0, _⟩ => rfl | ⟨1, _⟩ => rfl | ⟨2, _⟩ => rfl | ⟨3, _⟩ => rfl),
    broadcastInDim_apply _ _ _ (ix4 b 0 y z) (ix3 b y z : Cert.On_untied.S4x112x112.Idx) (by intro a; match a with | ⟨0, _⟩ => rfl | ⟨1, _⟩ => rfl | ⟨2, _⟩ => rfl)] at h
  have h' : Ideal.cmp .une (place x w a 7 Cert.On_untied.Facts.slices_S4x112x112x9_S4x112x112x1_0_0_0_7 (ix3 b y z))
    (place x w a 8 Cert.On_untied.Facts.slices_S4x112x112x9_S4x112x112x1_0_0_0_8 (ix3 b y z)) = 1#1 := h
  rw [place_apply _ _ _ _ (by decide), place_apply _ _ _ _ (by decide)] at h'
  intro e
  have e' : distance x w a b y z (ord (distance x w a b y z) ⟨7, by omega⟩)
    = distance x w a b y z (ord (distance x w a b y z) ⟨8, by omega⟩) := e
  rw [e'] at h'
  simp [Ideal.cmp] at h'

end Cert.ReferenceIdeal.Result
-- ==== Proof.Equation.lean ====
/- The equation: where the mask holds, the kernel and the reference end with the same averages. -/
module

public import proofs.«01_k».proof.Defs
public import proofs.«01_k».proof.Proof.Tail
public import proofs.«01_k».proof.Proof.RefValue
public import Idealize.ShloMosaic.Lib.Quiescent

@[expose] public section

set_option maxRecDepth 16384

noncomputable section

namespace Cert.Equation

open Idealize.ShloMosaic hiding ix0 ix1 ix2 ix3 ix4 ix5 ix6
open Idealize.ShloMosaic.ValueIdx Idealize.ShloMosaic.TcCoe Idealize.SL.Sem

local instance : Cert.KernelIdeal.Facts := Cert.KernelIdeal.Gen.facts
local instance : Cert.ReferenceIdeal.Facts := Cert.ReferenceIdeal.Gen.facts
local instance : Cert.On_untied.Facts := Cert.On_untied.Gen.facts

/-- The reference runs, keeps its arguments, and declares no semaphore that could end above zero. -/
theorem frame_reference : Cert.quiescent_ReferenceIdeal := by
  intro m g _
  refine (θ_run Cert.ReferenceIdeal.defs _ _).mono ?_ (Cert.ReferenceIdeal.Value.run (F := Ideal) m g)
  intro r h
  exact ⟨fun c => (h c).2, sem_eq_zero_of_no_sems (by decide) r.2⟩

/-- Both programs end with the averages of the values of the eight nearest patches. -/
theorem algebraic : Cert.algebraic_KernelIdeal_ReferenceIdeal_on_untied := by
  intro m g m' g' _ same
  refine ⟨fun c => Cert.ReferenceIdeal.Read.val_main_v35 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono ?_ (Cert.KernelIdeal.Tail.run m g)
    intro r h c
    refine ⟨fun i hi => ?_, (h c).2⟩
    rw [ValueIdx.eq_ix4 i] at hi ⊢
    refine ((h c).1 (i 0) (i 1) (i 2) (i 3) (Cert.ReferenceIdeal.Result.untied_of_mask _ _ _ _ _ _ _ _ hi)).trans ?_
    exact (Cert.ReferenceIdeal.Result.result_apply _ _ _ _ (i 0) (i 1) (i 2) (i 3)).symm
  · refine (θ_run Cert.ReferenceIdeal.defs _ _).mono ?_ (Cert.ReferenceIdeal.Value.run (F := Ideal) m' g')
    intro r h c
    obtain ⟨e0, e1, e2, e3⟩ := same c
    refine ⟨fun i _ => ?_, (h c).2⟩
    rw [(h c).1, Cert.ReferenceIdeal.Read.val_main_v35_eq, e0, e1, e2, e3]

end Cert.Equation
-- ==== Proof.lean ====
/- The certificate: the three programs run and keep their arguments, the idealized kernel is the kernel's own text, and it
   computes what the reference computes wherever the eighth and the ninth smallest distance differ. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_untied
public import proofs.«01_k».proof.Proof.Equation
public import Idealize.ShloMosaic.Adequacy
public import Idealize.ShloMosaic.Init

@[expose] public section

noncomputable section

namespace Cert.Proof

open Idealize.ShloMosaic Idealize.SL.Sem

/-- All five claims. -/
theorem claim : Cert.Claim := ⟨Cert.Kernel.Gen.facts, Cert.KernelIdeal.Gen.facts, Cert.ReferenceIdeal.Gen.facts,
  Cert.On_untied.Gen.facts, fun m ρ _ => Cert.Kernel.Gen.frame m ρ, fun m ρ _ => Cert.KernelIdeal.Gen.frame m ρ,
  Cert.Equation.frame_reference, trivial, Cert.Equation.algebraic⟩

end Cert.Proof

end
